-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![4096, 1024]⟩ (Layout.meshBlock [2, 2, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 1024]⟩ ⟨2, ![4096, 1024]⟩ (Layout.meshBlock [2, 2, 4] ![[2], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024 : Shape := ⟨1, ![1024]⟩
abbrev S2x1024 : Shape := ⟨2, ![2, 1024]⟩
abbrev S256x1024 : Shape := ⟨2, ![256, 1024]⟩
abbrev S16x2x1024 : Shape := ⟨3, ![16, 2, 1024]⟩
abbrev S2 : Shape := ⟨1, ![2]⟩
abbrev S16 : Shape := ⟨1, ![16]⟩
abbrev S_ : Shape := ⟨0, ![]⟩
abbrev S1 : Shape := ⟨1, ![1]⟩
abbrev S256 : Shape := ⟨1, ![256]⟩
abbrev S256x1 : Shape := ⟨2, ![256, 1]⟩
abbrev S1x1024 : Shape := ⟨2, ![1, 1024]⟩
abbrev S1x2x1024 : Shape := ⟨3, ![1, 2, 1024]⟩

abbrev nBuf : Space → Nat
  | .hbm => 4
  | .vmem => 4
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024, .f32⟩
  | .hbm, ⟨3, _⟩ => ⟨S2x1024, .f32⟩
  | .local _ .vmem, ⟨0, _⟩ => ⟨S2x1024, .f32⟩
  | .local _ .vmem, ⟨1, _⟩ => ⟨S256x1024, .f32⟩
  | .local _ .vmem, ⟨2, _⟩ => ⟨S256x1024, .f32⟩
  | .local _ .vmem, ⟨3, _⟩ => ⟨S16x2x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32 : BitVec 32 := 0#32
  let v14 : BitVec 1 := Scalar.cmpi .ne v12 c0_i32
  let v15 : BitVec 32 := Scalar.extui v14
  let c0_i32_4 : BitVec 32 := 0#32
  let v16 : BitVec 1 := Scalar.cmpi .ne v15 c0_i32_4
  v16

def k0_dev1 : Nat :=
  let c0_i32_248 : BitVec 32 := 0#32
  let c0_i32_244 : BitVec 32 := 0#32
  let c8_i32_247 : BitVec 32 := 8#32
  let v252 : BitVec 32 := Scalar.muli c0_i32_244 c8_i32_247
  let v253 : BitVec 32 := Scalar.addi c0_i32_248 v252
  let c0_i32_245 : BitVec 32 := 0#32
  let c4_i32_249 : BitVec 32 := 4#32
  let v254 : BitVec 32 := Scalar.muli c0_i32_245 c4_i32_249
  let v255 : BitVec 32 := Scalar.addi v253 v254
  let c0_i32_246 : BitVec 32 := 0#32
  let c1_i32_250 : BitVec 32 := 1#32
  let v256 : BitVec 32 := Scalar.muli c0_i32_246 c1_i32_250
  let v257 : BitVec 32 := Scalar.addi v255 v256
  v257.toNat
def k0_cond2 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c1_i32_5 : BitVec 32 := 1#32
  let v17 : BitVec 1 := Scalar.cmpi .ne v12 c1_i32_5
  let v18 : BitVec 32 := Scalar.extui v17
  let c0_i32_6 : BitVec 32 := 0#32
  let v19 : BitVec 1 := Scalar.cmpi .ne v18 c0_i32_6
  v19

def k0_dev2 : Nat :=
  let c0_i32_248 : BitVec 32 := 0#32
  let c0_i32_244 : BitVec 32 := 0#32
  let c8_i32_247 : BitVec 32 := 8#32
  let v252 : BitVec 32 := Scalar.muli c0_i32_244 c8_i32_247
  let v253 : BitVec 32 := Scalar.addi c0_i32_248 v252
  let c0_i32_245 : BitVec 32 := 0#32
  let c4_i32_249 : BitVec 32 := 4#32
  let v254 : BitVec 32 := Scalar.muli c0_i32_245 c4_i32_249
  let v255 : BitVec 32 := Scalar.addi v253 v254
  let c1_i32_246 : BitVec 32 := 1#32
  let c1_i32_250 : BitVec 32 := 1#32
  let v256 : BitVec 32 := Scalar.muli c1_i32_246 c1_i32_250
  let v257 : BitVec 32 := Scalar.addi v255 v256
  v257.toNat
def k0_cond3 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c2_i32_7 : BitVec 32 := 2#32
  let v20 : BitVec 1 := Scalar.cmpi .ne v12 c2_i32_7
  let v21 : BitVec 32 := Scalar.extui v20
  let c0_i32_8 : BitVec 32 := 0#32
  let v22 : BitVec 1 := Scalar.cmpi .ne v21 c0_i32_8
  v22

def k0_dev3 : Nat :=
  let c0_i32_248 : BitVec 32 := 0#32
  let c0_i32_244 : BitVec 32 := 0#32
  let c8_i32_247 : BitVec 32 := 8#32
  let v252 : BitVec 32 := Scalar.muli c0_i32_244 c8_i32_247
  let v253 : BitVec 32 := Scalar.addi c0_i32_248 v252
  let c0_i32_245 : BitVec 32 := 0#32
  let c4_i32_249 : BitVec 32 := 4#32
  let v254 : BitVec 32 := Scalar.muli c0_i32_245 c4_i32_249
  let v255 : BitVec 32 := Scalar.addi v253 v254
  let c2_i32_246 : BitVec 32 := 2#32
  let c1_i32_250 : BitVec 32 := 1#32
  let v256 : BitVec 32 := Scalar.muli c2_i32_246 c1_i32_250
  let v257 : BitVec 32 := Scalar.addi v255 v256
  v257.toNat
def k0_cond4 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c3_i32 : BitVec 32 := 3#32
  let v23 : BitVec 1 := Scalar.cmpi .ne v12 c3_i32
  let v24 : BitVec 32 := Scalar.extui v23
  let c0_i32_9 : BitVec 32 := 0#32
  let v25 : BitVec 1 := Scalar.cmpi .ne v24 c0_i32_9
  v25

def k0_dev4 : Nat :=
  let c0_i32_248 : BitVec 32 := 0#32
  let c0_i32_244 : BitVec 32 := 0#32
  let c8_i32_247 : BitVec 32 := 8#32
  let v252 : BitVec 32 := Scalar.muli c0_i32_244 c8_i32_247
  let v253 : BitVec 32 := Scalar.addi c0_i32_248 v252
  let c0_i32_245 : BitVec 32 := 0#32
  let c4_i32_249 : BitVec 32 := 4#32
  let v254 : BitVec 32 := Scalar.muli c0_i32_245 c4_i32_249
  let v255 : BitVec 32 := Scalar.addi v253 v254
  let c3_i32_246 : BitVec 32 := 3#32
  let c1_i32_250 : BitVec 32 := 1#32
  let v256 : BitVec 32 := Scalar.muli c3_i32_246 c1_i32_250
  let v257 : BitVec 32 := Scalar.addi v255 v256
  v257.toNat
def k0_cond5 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c4_i32_10 : BitVec 32 := 4#32
  let v26 : BitVec 1 := Scalar.cmpi .ne v12 c4_i32_10
  let v27 : BitVec 32 := Scalar.extui v26
  let c0_i32_11 : BitVec 32 := 0#32
  let v28 : BitVec 1 := Scalar.cmpi .ne v27 c0_i32_11
  v28

def k0_dev5 : Nat :=
  let c0_i32_248 : BitVec 32 := 0#32
  let c0_i32_244 : BitVec 32 := 0#32
  let c8_i32_247 : BitVec 32 := 8#32
  let v252 : BitVec 32 := Scalar.muli c0_i32_244 c8_i32_247
  let v253 : BitVec 32 := Scalar.addi c0_i32_248 v252
  let c1_i32_245 : BitVec 32 := 1#32
  let c4_i32_249 : BitVec 32 := 4#32
  let v254 : BitVec 32 := Scalar.muli c1_i32_245 c4_i32_249
  let v255 : BitVec 32 := Scalar.addi v253 v254
  let c0_i32_246 : BitVec 32 := 0#32
  let c1_i32_250 : BitVec 32 := 1#32
  let v256 : BitVec 32 := Scalar.muli c0_i32_246 c1_i32_250
  let v257 : BitVec 32 := Scalar.addi v255 v256
  v257.toNat
def k0_cond6 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c5_i32 : BitVec 32 := 5#32
  let v29 : BitVec 1 := Scalar.cmpi .ne v12 c5_i32
  let v30 : BitVec 32 := Scalar.extui v29
  let c0_i32_12 : BitVec 32 := 0#32
  let v31 : BitVec 1 := Scalar.cmpi .ne v30 c0_i32_12
  v31

def k0_dev6 : Nat :=
  let c0_i32_248 : BitVec 32 := 0#32
  let c0_i32_244 : BitVec 32 := 0#32
  let c8_i32_247 : BitVec 32 := 8#32
  let v252 : BitVec 32 := Scalar.muli c0_i32_244 c8_i32_247
  let v253 : BitVec 32 := Scalar.addi c0_i32_248 v252
  let c1_i32_245 : BitVec 32 := 1#32
  let c4_i32_249 : BitVec 32 := 4#32
  let v254 : BitVec 32 := Scalar.muli c1_i32_245 c4_i32_249
  let v255 : BitVec 32 := Scalar.addi v253 v254
  let c1_i32_246 : BitVec 32 := 1#32
  let c1_i32_250 : BitVec 32 := 1#32
  let v256 : BitVec 32 := Scalar.muli c1_i32_246 c1_i32_250
  let v257 : BitVec 32 := Scalar.addi v255 v256
  v257.toNat
def k0_cond7 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c6_i32 : BitVec 32 := 6#32
  let v32 : BitVec 1 := Scalar.cmpi .ne v12 c6_i32
  let v33 : BitVec 32 := Scalar.extui v32
  let c0_i32_13 : BitVec 32 := 0#32
  let v34 : BitVec 1 := Scalar.cmpi .ne v33 c0_i32_13
  v34

def k0_dev7 : Nat :=
  let c0_i32_248 : BitVec 32 := 0#32
  let c0_i32_244 : BitVec 32 := 0#32
  let c8_i32_247 : BitVec 32 := 8#32
  let v252 : BitVec 32 := Scalar.muli c0_i32_244 c8_i32_247
  let v253 : BitVec 32 := Scalar.addi c0_i32_248 v252
  let c1_i32_245 : BitVec 32 := 1#32
  let c4_i32_249 : BitVec 32 := 4#32
  let v254 : BitVec 32 := Scalar.muli c1_i32_245 c4_i32_249
  let v255 : BitVec 32 := Scalar.addi v253 v254
  let c2_i32_246 : BitVec 32 := 2#32
  let c1_i32_250 : BitVec 32 := 1#32
  let v256 : BitVec 32 := Scalar.muli c2_i32_246 c1_i32_250
  let v257 : BitVec 32 := Scalar.addi v255 v256
  v257.toNat
def k0_cond8 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c7_i32 : BitVec 32 := 7#32
  let v35 : BitVec 1 := Scalar.cmpi .ne v12 c7_i32
  let v36 : BitVec 32 := Scalar.extui v35
  let c0_i32_14 : BitVec 32 := 0#32
  let v37 : BitVec 1 := Scalar.cmpi .ne v36 c0_i32_14
  v37

def k0_dev8 : Nat :=
  let c0_i32_248 : BitVec 32 := 0#32
  let c0_i32_244 : BitVec 32 := 0#32
  let c8_i32_247 : BitVec 32 := 8#32
  let v252 : BitVec 32 := Scalar.muli c0_i32_244 c8_i32_247
  let v253 : BitVec 32 := Scalar.addi c0_i32_248 v252
  let c1_i32_245 : BitVec 32 := 1#32
  let c4_i32_249 : BitVec 32 := 4#32
  let v254 : BitVec 32 := Scalar.muli c1_i32_245 c4_i32_249
  let v255 : BitVec 32 := Scalar.addi v253 v254
  let c3_i32_246 : BitVec 32 := 3#32
  let c1_i32_250 : BitVec 32 := 1#32
  let v256 : BitVec 32 := Scalar.muli c3_i32_246 c1_i32_250
  let v257 : BitVec 32 := Scalar.addi v255 v256
  v257.toNat
def k0_cond9 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c8_i32_15 : BitVec 32 := 8#32
  let v38 : BitVec 1 := Scalar.cmpi .ne v12 c8_i32_15
  let v39 : BitVec 32 := Scalar.extui v38
  let c0_i32_16 : BitVec 32 := 0#32
  let v40 : BitVec 1 := Scalar.cmpi .ne v39 c0_i32_16
  v40

def k0_dev9 : Nat :=
  let c0_i32_248 : BitVec 32 := 0#32
  let c1_i32_244 : BitVec 32 := 1#32
  let c8_i32_247 : BitVec 32 := 8#32
  let v252 : BitVec 32 := Scalar.muli c1_i32_244 c8_i32_247
  let v253 : BitVec 32 := Scalar.addi c0_i32_248 v252
  let c0_i32_245 : BitVec 32 := 0#32
  let c4_i32_249 : BitVec 32 := 4#32
  let v254 : BitVec 32 := Scalar.muli c0_i32_245 c4_i32_249
  let v255 : BitVec 32 := Scalar.addi v253 v254
  let c0_i32_246 : BitVec 32 := 0#32
  let c1_i32_250 : BitVec 32 := 1#32
  let v256 : BitVec 32 := Scalar.muli c0_i32_246 c1_i32_250
  let v257 : BitVec 32 := Scalar.addi v255 v256
  v257.toNat
def k0_cond10 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c9_i32 : BitVec 32 := 9#32
  let v41 : BitVec 1 := Scalar.cmpi .ne v12 c9_i32
  let v42 : BitVec 32 := Scalar.extui v41
  let c0_i32_17 : BitVec 32 := 0#32
  let v43 : BitVec 1 := Scalar.cmpi .ne v42 c0_i32_17
  v43

def k0_dev10 : Nat :=
  let c0_i32_248 : BitVec 32 := 0#32
  let c1_i32_244 : BitVec 32 := 1#32
  let c8_i32_247 : BitVec 32 := 8#32
  let v252 : BitVec 32 := Scalar.muli c1_i32_244 c8_i32_247
  let v253 : BitVec 32 := Scalar.addi c0_i32_248 v252
  let c0_i32_245 : BitVec 32 := 0#32
  let c4_i32_249 : BitVec 32 := 4#32
  let v254 : BitVec 32 := Scalar.muli c0_i32_245 c4_i32_249
  let v255 : BitVec 32 := Scalar.addi v253 v254
  let c1_i32_246 : BitVec 32 := 1#32
  let c1_i32_250 : BitVec 32 := 1#32
  let v256 : BitVec 32 := Scalar.muli c1_i32_246 c1_i32_250
  let v257 : BitVec 32 := Scalar.addi v255 v256
  v257.toNat
def k0_cond11 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c10_i32 : BitVec 32 := 10#32
  let v44 : BitVec 1 := Scalar.cmpi .ne v12 c10_i32
  let v45 : BitVec 32 := Scalar.extui v44
  let c0_i32_18 : BitVec 32 := 0#32
  let v46 : BitVec 1 := Scalar.cmpi .ne v45 c0_i32_18
  v46

def k0_dev11 : Nat :=
  let c0_i32_248 : BitVec 32 := 0#32
  let c1_i32_244 : BitVec 32 := 1#32
  let c8_i32_247 : BitVec 32 := 8#32
  let v252 : BitVec 32 := Scalar.muli c1_i32_244 c8_i32_247
  let v253 : BitVec 32 := Scalar.addi c0_i32_248 v252
  let c0_i32_245 : BitVec 32 := 0#32
  let c4_i32_249 : BitVec 32 := 4#32
  let v254 : BitVec 32 := Scalar.muli c0_i32_245 c4_i32_249
  let v255 : BitVec 32 := Scalar.addi v253 v254
  let c2_i32_246 : BitVec 32 := 2#32
  let c1_i32_250 : BitVec 32 := 1#32
  let v256 : BitVec 32 := Scalar.muli c2_i32_246 c1_i32_250
  let v257 : BitVec 32 := Scalar.addi v255 v256
  v257.toNat
def k0_cond12 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c11_i32 : BitVec 32 := 11#32
  let v47 : BitVec 1 := Scalar.cmpi .ne v12 c11_i32
  let v48 : BitVec 32 := Scalar.extui v47
  let c0_i32_19 : BitVec 32 := 0#32
  let v49 : BitVec 1 := Scalar.cmpi .ne v48 c0_i32_19
  v49

def k0_dev12 : Nat :=
  let c0_i32_248 : BitVec 32 := 0#32
  let c1_i32_244 : BitVec 32 := 1#32
  let c8_i32_247 : BitVec 32 := 8#32
  let v252 : BitVec 32 := Scalar.muli c1_i32_244 c8_i32_247
  let v253 : BitVec 32 := Scalar.addi c0_i32_248 v252
  let c0_i32_245 : BitVec 32 := 0#32
  let c4_i32_249 : BitVec 32 := 4#32
  let v254 : BitVec 32 := Scalar.muli c0_i32_245 c4_i32_249
  let v255 : BitVec 32 := Scalar.addi v253 v254
  let c3_i32_246 : BitVec 32 := 3#32
  let c1_i32_250 : BitVec 32 := 1#32
  let v256 : BitVec 32 := Scalar.muli c3_i32_246 c1_i32_250
  let v257 : BitVec 32 := Scalar.addi v255 v256
  v257.toNat
def k0_cond13 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c12_i32 : BitVec 32 := 12#32
  let v50 : BitVec 1 := Scalar.cmpi .ne v12 c12_i32
  let v51 : BitVec 32 := Scalar.extui v50
  let c0_i32_20 : BitVec 32 := 0#32
  let v52 : BitVec 1 := Scalar.cmpi .ne v51 c0_i32_20
  v52

def k0_dev13 : Nat :=
  let c0_i32_248 : BitVec 32 := 0#32
  let c1_i32_244 : BitVec 32 := 1#32
  let c8_i32_247 : BitVec 32 := 8#32
  let v252 : BitVec 32 := Scalar.muli c1_i32_244 c8_i32_247
  let v253 : BitVec 32 := Scalar.addi c0_i32_248 v252
  let c1_i32_245 : BitVec 32 := 1#32
  let c4_i32_249 : BitVec 32 := 4#32
  let v254 : BitVec 32 := Scalar.muli c1_i32_245 c4_i32_249
  let v255 : BitVec 32 := Scalar.addi v253 v254
  let c0_i32_246 : BitVec 32 := 0#32
  let c1_i32_250 : BitVec 32 := 1#32
  let v256 : BitVec 32 := Scalar.muli c0_i32_246 c1_i32_250
  let v257 : BitVec 32 := Scalar.addi v255 v256
  v257.toNat
def k0_cond14 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c13_i32 : BitVec 32 := 13#32
  let v53 : BitVec 1 := Scalar.cmpi .ne v12 c13_i32
  let v54 : BitVec 32 := Scalar.extui v53
  let c0_i32_21 : BitVec 32 := 0#32
  let v55 : BitVec 1 := Scalar.cmpi .ne v54 c0_i32_21
  v55

def k0_dev14 : Nat :=
  let c0_i32_248 : BitVec 32 := 0#32
  let c1_i32_244 : BitVec 32 := 1#32
  let c8_i32_247 : BitVec 32 := 8#32
  let v252 : BitVec 32 := Scalar.muli c1_i32_244 c8_i32_247
  let v253 : BitVec 32 := Scalar.addi c0_i32_248 v252
  let c1_i32_245 : BitVec 32 := 1#32
  let c4_i32_249 : BitVec 32 := 4#32
  let v254 : BitVec 32 := Scalar.muli c1_i32_245 c4_i32_249
  let v255 : BitVec 32 := Scalar.addi v253 v254
  let c1_i32_246 : BitVec 32 := 1#32
  let c1_i32_250 : BitVec 32 := 1#32
  let v256 : BitVec 32 := Scalar.muli c1_i32_246 c1_i32_250
  let v257 : BitVec 32 := Scalar.addi v255 v256
  v257.toNat
def k0_cond15 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c14_i32 : BitVec 32 := 14#32
  let v56 : BitVec 1 := Scalar.cmpi .ne v12 c14_i32
  let v57 : BitVec 32 := Scalar.extui v56
  let c0_i32_22 : BitVec 32 := 0#32
  let v58 : BitVec 1 := Scalar.cmpi .ne v57 c0_i32_22
  v58

def k0_dev15 : Nat :=
  let c0_i32_248 : BitVec 32 := 0#32
  let c1_i32_244 : BitVec 32 := 1#32
  let c8_i32_247 : BitVec 32 := 8#32
  let v252 : BitVec 32 := Scalar.muli c1_i32_244 c8_i32_247
  let v253 : BitVec 32 := Scalar.addi c0_i32_248 v252
  let c1_i32_245 : BitVec 32 := 1#32
  let c4_i32_249 : BitVec 32 := 4#32
  let v254 : BitVec 32 := Scalar.muli c1_i32_245 c4_i32_249
  let v255 : BitVec 32 := Scalar.addi v253 v254
  let c2_i32_246 : BitVec 32 := 2#32
  let c1_i32_250 : BitVec 32 := 1#32
  let v256 : BitVec 32 := Scalar.muli c2_i32_246 c1_i32_250
  let v257 : BitVec 32 := Scalar.addi v255 v256
  v257.toNat
def k0_cond16 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c15_i32 : BitVec 32 := 15#32
  let v59 : BitVec 1 := Scalar.cmpi .ne v12 c15_i32
  let v60 : BitVec 32 := Scalar.extui v59
  let c0_i32_23 : BitVec 32 := 0#32
  let v61 : BitVec 1 := Scalar.cmpi .ne v60 c0_i32_23
  v61

def k0_dev16 : Nat :=
  let c0_i32_248 : BitVec 32 := 0#32
  let c1_i32_244 : BitVec 32 := 1#32
  let c8_i32_247 : BitVec 32 := 8#32
  let v252 : BitVec 32 := Scalar.muli c1_i32_244 c8_i32_247
  let v253 : BitVec 32 := Scalar.addi c0_i32_248 v252
  let c1_i32_245 : BitVec 32 := 1#32
  let c4_i32_249 : BitVec 32 := 4#32
  let v254 : BitVec 32 := Scalar.muli c1_i32_245 c4_i32_249
  let v255 : BitVec 32 := Scalar.addi v253 v254
  let c3_i32_246 : BitVec 32 := 3#32
  let c1_i32_250 : BitVec 32 := 1#32
  let v256 : BitVec 32 := Scalar.muli c3_i32_246 c1_i32_250
  let v257 : BitVec 32 := Scalar.addi v255 v256
  v257.toNat
def k0_off1 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v62 : BitVec 32 := Scalar.muli v10 c256_i32
  let c0_i32_26 : BitVec 32 := 0#32
  ![v62.toNat, 0]
def k0_off2 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let v101 : Index := Scalar.indexCast v12
  let c0_42 : Index := 0#32
  let c0_43 : Index := 0#32
  ![v101.toNat, 0, 0]
def k0_cond17 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_45 : BitVec 32 := 0#32
  let v105 : BitVec 1 := Scalar.cmpi .ne v12 c0_i32_45
  let v106 : BitVec 32 := Scalar.extui v105
  let c0_i32_47 : BitVec 32 := 0#32
  let v107 : BitVec 1 := Scalar.cmpi .ne v106 c0_i32_47
  v107

def k0_off3 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off4 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_250 : BitVec 32 := 0#32
  let c0_i32_251 : BitVec 32 := 0#32
  ![v12.toNat, 0, 0]
def k0_dev17 : Nat :=
  let c0_i32_247 : BitVec 32 := 0#32
  let c0_i32_243 : BitVec 32 := 0#32
  let c8_i32_246 : BitVec 32 := 8#32
  let v252 : BitVec 32 := Scalar.muli c0_i32_243 c8_i32_246
  let v253 : BitVec 32 := Scalar.addi c0_i32_247 v252
  let c0_i32_244 : BitVec 32 := 0#32
  let c4_i32_248 : BitVec 32 := 4#32
  let v254 : BitVec 32 := Scalar.muli c0_i32_244 c4_i32_248
  let v255 : BitVec 32 := Scalar.addi v253 v254
  let c0_i32_245 : BitVec 32 := 0#32
  let c1_i32_249 : BitVec 32 := 1#32
  let v256 : BitVec 32 := Scalar.muli c0_i32_245 c1_i32_249
  let v257 : BitVec 32 := Scalar.addi v255 v256
  v257.toNat
def k0_cond18 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c1_i32_48 : BitVec 32 := 1#32
  let v108 : BitVec 1 := Scalar.cmpi .ne v12 c1_i32_48
  let v109 : BitVec 32 := Scalar.extui v108
  let c0_i32_50 : BitVec 32 := 0#32
  let v110 : BitVec 1 := Scalar.cmpi .ne v109 c0_i32_50
  v110

def k0_off5 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off6 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_250 : BitVec 32 := 0#32
  let c0_i32_251 : BitVec 32 := 0#32
  ![v12.toNat, 0, 0]
def k0_dev18 : Nat :=
  let c0_i32_247 : BitVec 32 := 0#32
  let c0_i32_243 : BitVec 32 := 0#32
  let c8_i32_246 : BitVec 32 := 8#32
  let v252 : BitVec 32 := Scalar.muli c0_i32_243 c8_i32_246
  let v253 : BitVec 32 := Scalar.addi c0_i32_247 v252
  let c0_i32_244 : BitVec 32 := 0#32
  let c4_i32_248 : BitVec 32 := 4#32
  let v254 : BitVec 32 := Scalar.muli c0_i32_244 c4_i32_248
  let v255 : BitVec 32 := Scalar.addi v253 v254
  let c1_i32_245 : BitVec 32 := 1#32
  let c1_i32_249 : BitVec 32 := 1#32
  let v256 : BitVec 32 := Scalar.muli c1_i32_245 c1_i32_249
  let v257 : BitVec 32 := Scalar.addi v255 v256
  v257.toNat
def k0_cond19 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c2_i32_51 : BitVec 32 := 2#32
  let v111 : BitVec 1 := Scalar.cmpi .ne v12 c2_i32_51
  let v112 : BitVec 32 := Scalar.extui v111
  let c0_i32_53 : BitVec 32 := 0#32
  let v113 : BitVec 1 := Scalar.cmpi .ne v112 c0_i32_53
  v113

def k0_off7 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off8 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_250 : BitVec 32 := 0#32
  let c0_i32_251 : BitVec 32 := 0#32
  ![v12.toNat, 0, 0]
def k0_dev19 : Nat :=
  let c0_i32_247 : BitVec 32 := 0#32
  let c0_i32_243 : BitVec 32 := 0#32
  let c8_i32_246 : BitVec 32 := 8#32
  let v252 : BitVec 32 := Scalar.muli c0_i32_243 c8_i32_246
  let v253 : BitVec 32 := Scalar.addi c0_i32_247 v252
  let c0_i32_244 : BitVec 32 := 0#32
  let c4_i32_248 : BitVec 32 := 4#32
  let v254 : BitVec 32 := Scalar.muli c0_i32_244 c4_i32_248
  let v255 : BitVec 32 := Scalar.addi v253 v254
  let c2_i32_245 : BitVec 32 := 2#32
  let c1_i32_249 : BitVec 32 := 1#32
  let v256 : BitVec 32 := Scalar.muli c2_i32_245 c1_i32_249
  let v257 : BitVec 32 := Scalar.addi v255 v256
  v257.toNat
def k0_cond20 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c3_i32_54 : BitVec 32 := 3#32
  let v114 : BitVec 1 := Scalar.cmpi .ne v12 c3_i32_54
  let v115 : BitVec 32 := Scalar.extui v114
  let c0_i32_56 : BitVec 32 := 0#32
  let v116 : BitVec 1 := Scalar.cmpi .ne v115 c0_i32_56
  v116

def k0_off9 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off10 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_250 : BitVec 32 := 0#32
  let c0_i32_251 : BitVec 32 := 0#32
  ![v12.toNat, 0, 0]
def k0_dev20 : Nat :=
  let c0_i32_247 : BitVec 32 := 0#32
  let c0_i32_243 : BitVec 32 := 0#32
  let c8_i32_246 : BitVec 32 := 8#32
  let v252 : BitVec 32 := Scalar.muli c0_i32_243 c8_i32_246
  let v253 : BitVec 32 := Scalar.addi c0_i32_247 v252
  let c0_i32_244 : BitVec 32 := 0#32
  let c4_i32_248 : BitVec 32 := 4#32
  let v254 : BitVec 32 := Scalar.muli c0_i32_244 c4_i32_248
  let v255 : BitVec 32 := Scalar.addi v253 v254
  let c3_i32_245 : BitVec 32 := 3#32
  let c1_i32_249 : BitVec 32 := 1#32
  let v256 : BitVec 32 := Scalar.muli c3_i32_245 c1_i32_249
  let v257 : BitVec 32 := Scalar.addi v255 v256
  v257.toNat
def k0_cond21 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c4_i32_57 : BitVec 32 := 4#32
  let v117 : BitVec 1 := Scalar.cmpi .ne v12 c4_i32_57
  let v118 : BitVec 32 := Scalar.extui v117
  let c0_i32_59 : BitVec 32 := 0#32
  let v119 : BitVec 1 := Scalar.cmpi .ne v118 c0_i32_59
  v119

def k0_off11 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off12 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_250 : BitVec 32 := 0#32
  let c0_i32_251 : BitVec 32 := 0#32
  ![v12.toNat, 0, 0]
def k0_dev21 : Nat :=
  let c0_i32_247 : BitVec 32 := 0#32
  let c0_i32_243 : BitVec 32 := 0#32
  let c8_i32_246 : BitVec 32 := 8#32
  let v252 : BitVec 32 := Scalar.muli c0_i32_243 c8_i32_246
  let v253 : BitVec 32 := Scalar.addi c0_i32_247 v252
  let c1_i32_244 : BitVec 32 := 1#32
  let c4_i32_248 : BitVec 32 := 4#32
  let v254 : BitVec 32 := Scalar.muli c1_i32_244 c4_i32_248
  let v255 : BitVec 32 := Scalar.addi v253 v254
  let c0_i32_245 : BitVec 32 := 0#32
  let c1_i32_249 : BitVec 32 := 1#32
  let v256 : BitVec 32 := Scalar.muli c0_i32_245 c1_i32_249
  let v257 : BitVec 32 := Scalar.addi v255 v256
  v257.toNat
def k0_cond22 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c5_i32_60 : BitVec 32 := 5#32
  let v120 : BitVec 1 := Scalar.cmpi .ne v12 c5_i32_60
  let v121 : BitVec 32 := Scalar.extui v120
  let c0_i32_62 : BitVec 32 := 0#32
  let v122 : BitVec 1 := Scalar.cmpi .ne v121 c0_i32_62
  v122

def k0_off13 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off14 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_250 : BitVec 32 := 0#32
  let c0_i32_251 : BitVec 32 := 0#32
  ![v12.toNat, 0, 0]
def k0_dev22 : Nat :=
  let c0_i32_247 : BitVec 32 := 0#32
  let c0_i32_243 : BitVec 32 := 0#32
  let c8_i32_246 : BitVec 32 := 8#32
  let v252 : BitVec 32 := Scalar.muli c0_i32_243 c8_i32_246
  let v253 : BitVec 32 := Scalar.addi c0_i32_247 v252
  let c1_i32_244 : BitVec 32 := 1#32
  let c4_i32_248 : BitVec 32 := 4#32
  let v254 : BitVec 32 := Scalar.muli c1_i32_244 c4_i32_248
  let v255 : BitVec 32 := Scalar.addi v253 v254
  let c1_i32_245 : BitVec 32 := 1#32
  let c1_i32_249 : BitVec 32 := 1#32
  let v256 : BitVec 32 := Scalar.muli c1_i32_245 c1_i32_249
  let v257 : BitVec 32 := Scalar.addi v255 v256
  v257.toNat
def k0_cond23 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c6_i32_63 : BitVec 32 := 6#32
  let v123 : BitVec 1 := Scalar.cmpi .ne v12 c6_i32_63
  let v124 : BitVec 32 := Scalar.extui v123
  let c0_i32_65 : BitVec 32 := 0#32
  let v125 : BitVec 1 := Scalar.cmpi .ne v124 c0_i32_65
  v125

def k0_off15 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off16 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_250 : BitVec 32 := 0#32
  let c0_i32_251 : BitVec 32 := 0#32
  ![v12.toNat, 0, 0]
def k0_dev23 : Nat :=
  let c0_i32_247 : BitVec 32 := 0#32
  let c0_i32_243 : BitVec 32 := 0#32
  let c8_i32_246 : BitVec 32 := 8#32
  let v252 : BitVec 32 := Scalar.muli c0_i32_243 c8_i32_246
  let v253 : BitVec 32 := Scalar.addi c0_i32_247 v252
  let c1_i32_244 : BitVec 32 := 1#32
  let c4_i32_248 : BitVec 32 := 4#32
  let v254 : BitVec 32 := Scalar.muli c1_i32_244 c4_i32_248
  let v255 : BitVec 32 := Scalar.addi v253 v254
  let c2_i32_245 : BitVec 32 := 2#32
  let c1_i32_249 : BitVec 32 := 1#32
  let v256 : BitVec 32 := Scalar.muli c2_i32_245 c1_i32_249
  let v257 : BitVec 32 := Scalar.addi v255 v256
  v257.toNat
def k0_cond24 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c7_i32_66 : BitVec 32 := 7#32
  let v126 : BitVec 1 := Scalar.cmpi .ne v12 c7_i32_66
  let v127 : BitVec 32 := Scalar.extui v126
  let c0_i32_68 : BitVec 32 := 0#32
  let v128 : BitVec 1 := Scalar.cmpi .ne v127 c0_i32_68
  v128

def k0_off17 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off18 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_250 : BitVec 32 := 0#32
  let c0_i32_251 : BitVec 32 := 0#32
  ![v12.toNat, 0, 0]
def k0_dev24 : Nat :=
  let c0_i32_247 : BitVec 32 := 0#32
  let c0_i32_243 : BitVec 32 := 0#32
  let c8_i32_246 : BitVec 32 := 8#32
  let v252 : BitVec 32 := Scalar.muli c0_i32_243 c8_i32_246
  let v253 : BitVec 32 := Scalar.addi c0_i32_247 v252
  let c1_i32_244 : BitVec 32 := 1#32
  let c4_i32_248 : BitVec 32 := 4#32
  let v254 : BitVec 32 := Scalar.muli c1_i32_244 c4_i32_248
  let v255 : BitVec 32 := Scalar.addi v253 v254
  let c3_i32_245 : BitVec 32 := 3#32
  let c1_i32_249 : BitVec 32 := 1#32
  let v256 : BitVec 32 := Scalar.muli c3_i32_245 c1_i32_249
  let v257 : BitVec 32 := Scalar.addi v255 v256
  v257.toNat
def k0_cond25 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c8_i32_69 : BitVec 32 := 8#32
  let v129 : BitVec 1 := Scalar.cmpi .ne v12 c8_i32_69
  let v130 : BitVec 32 := Scalar.extui v129
  let c0_i32_71 : BitVec 32 := 0#32
  let v131 : BitVec 1 := Scalar.cmpi .ne v130 c0_i32_71
  v131

def k0_off19 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off20 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_250 : BitVec 32 := 0#32
  let c0_i32_251 : BitVec 32 := 0#32
  ![v12.toNat, 0, 0]
def k0_dev25 : Nat :=
  let c0_i32_247 : BitVec 32 := 0#32
  let c1_i32_243 : BitVec 32 := 1#32
  let c8_i32_246 : BitVec 32 := 8#32
  let v252 : BitVec 32 := Scalar.muli c1_i32_243 c8_i32_246
  let v253 : BitVec 32 := Scalar.addi c0_i32_247 v252
  let c0_i32_244 : BitVec 32 := 0#32
  let c4_i32_248 : BitVec 32 := 4#32
  let v254 : BitVec 32 := Scalar.muli c0_i32_244 c4_i32_248
  let v255 : BitVec 32 := Scalar.addi v253 v254
  let c0_i32_245 : BitVec 32 := 0#32
  let c1_i32_249 : BitVec 32 := 1#32
  let v256 : BitVec 32 := Scalar.muli c0_i32_245 c1_i32_249
  let v257 : BitVec 32 := Scalar.addi v255 v256
  v257.toNat
def k0_cond26 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c9_i32_72 : BitVec 32 := 9#32
  let v132 : BitVec 1 := Scalar.cmpi .ne v12 c9_i32_72
  let v133 : BitVec 32 := Scalar.extui v132
  let c0_i32_74 : BitVec 32 := 0#32
  let v134 : BitVec 1 := Scalar.cmpi .ne v133 c0_i32_74
  v134

def k0_off21 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off22 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_250 : BitVec 32 := 0#32
  let c0_i32_251 : BitVec 32 := 0#32
  ![v12.toNat, 0, 0]
def k0_dev26 : Nat :=
  let c0_i32_247 : BitVec 32 := 0#32
  let c1_i32_243 : BitVec 32 := 1#32
  let c8_i32_246 : BitVec 32 := 8#32
  let v252 : BitVec 32 := Scalar.muli c1_i32_243 c8_i32_246
  let v253 : BitVec 32 := Scalar.addi c0_i32_247 v252
  let c0_i32_244 : BitVec 32 := 0#32
  let c4_i32_248 : BitVec 32 := 4#32
  let v254 : BitVec 32 := Scalar.muli c0_i32_244 c4_i32_248
  let v255 : BitVec 32 := Scalar.addi v253 v254
  let c1_i32_245 : BitVec 32 := 1#32
  let c1_i32_249 : BitVec 32 := 1#32
  let v256 : BitVec 32 := Scalar.muli c1_i32_245 c1_i32_249
  let v257 : BitVec 32 := Scalar.addi v255 v256
  v257.toNat
def k0_cond27 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c10_i32_75 : BitVec 32 := 10#32
  let v135 : BitVec 1 := Scalar.cmpi .ne v12 c10_i32_75
  let v136 : BitVec 32 := Scalar.extui v135
  let c0_i32_77 : BitVec 32 := 0#32
  let v137 : BitVec 1 := Scalar.cmpi .ne v136 c0_i32_77
  v137

def k0_off23 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off24 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_250 : BitVec 32 := 0#32
  let c0_i32_251 : BitVec 32 := 0#32
  ![v12.toNat, 0, 0]
def k0_dev27 : Nat :=
  let c0_i32_247 : BitVec 32 := 0#32
  let c1_i32_243 : BitVec 32 := 1#32
  let c8_i32_246 : BitVec 32 := 8#32
  let v252 : BitVec 32 := Scalar.muli c1_i32_243 c8_i32_246
  let v253 : BitVec 32 := Scalar.addi c0_i32_247 v252
  let c0_i32_244 : BitVec 32 := 0#32
  let c4_i32_248 : BitVec 32 := 4#32
  let v254 : BitVec 32 := Scalar.muli c0_i32_244 c4_i32_248
  let v255 : BitVec 32 := Scalar.addi v253 v254
  let c2_i32_245 : BitVec 32 := 2#32
  let c1_i32_249 : BitVec 32 := 1#32
  let v256 : BitVec 32 := Scalar.muli c2_i32_245 c1_i32_249
  let v257 : BitVec 32 := Scalar.addi v255 v256
  v257.toNat
def k0_cond28 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c11_i32_78 : BitVec 32 := 11#32
  let v138 : BitVec 1 := Scalar.cmpi .ne v12 c11_i32_78
  let v139 : BitVec 32 := Scalar.extui v138
  let c0_i32_80 : BitVec 32 := 0#32
  let v140 : BitVec 1 := Scalar.cmpi .ne v139 c0_i32_80
  v140

def k0_off25 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off26 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_250 : BitVec 32 := 0#32
  let c0_i32_251 : BitVec 32 := 0#32
  ![v12.toNat, 0, 0]
def k0_dev28 : Nat :=
  let c0_i32_247 : BitVec 32 := 0#32
  let c1_i32_243 : BitVec 32 := 1#32
  let c8_i32_246 : BitVec 32 := 8#32
  let v252 : BitVec 32 := Scalar.muli c1_i32_243 c8_i32_246
  let v253 : BitVec 32 := Scalar.addi c0_i32_247 v252
  let c0_i32_244 : BitVec 32 := 0#32
  let c4_i32_248 : BitVec 32 := 4#32
  let v254 : BitVec 32 := Scalar.muli c0_i32_244 c4_i32_248
  let v255 : BitVec 32 := Scalar.addi v253 v254
  let c3_i32_245 : BitVec 32 := 3#32
  let c1_i32_249 : BitVec 32 := 1#32
  let v256 : BitVec 32 := Scalar.muli c3_i32_245 c1_i32_249
  let v257 : BitVec 32 := Scalar.addi v255 v256
  v257.toNat
def k0_cond29 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c12_i32_81 : BitVec 32 := 12#32
  let v141 : BitVec 1 := Scalar.cmpi .ne v12 c12_i32_81
  let v142 : BitVec 32 := Scalar.extui v141
  let c0_i32_83 : BitVec 32 := 0#32
  let v143 : BitVec 1 := Scalar.cmpi .ne v142 c0_i32_83
  v143

def k0_off27 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off28 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_250 : BitVec 32 := 0#32
  let c0_i32_251 : BitVec 32 := 0#32
  ![v12.toNat, 0, 0]
def k0_dev29 : Nat :=
  let c0_i32_247 : BitVec 32 := 0#32
  let c1_i32_243 : BitVec 32 := 1#32
  let c8_i32_246 : BitVec 32 := 8#32
  let v252 : BitVec 32 := Scalar.muli c1_i32_243 c8_i32_246
  let v253 : BitVec 32 := Scalar.addi c0_i32_247 v252
  let c1_i32_244 : BitVec 32 := 1#32
  let c4_i32_248 : BitVec 32 := 4#32
  let v254 : BitVec 32 := Scalar.muli c1_i32_244 c4_i32_248
  let v255 : BitVec 32 := Scalar.addi v253 v254
  let c0_i32_245 : BitVec 32 := 0#32
  let c1_i32_249 : BitVec 32 := 1#32
  let v256 : BitVec 32 := Scalar.muli c0_i32_245 c1_i32_249
  let v257 : BitVec 32 := Scalar.addi v255 v256
  v257.toNat
def k0_cond30 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c13_i32_84 : BitVec 32 := 13#32
  let v144 : BitVec 1 := Scalar.cmpi .ne v12 c13_i32_84
  let v145 : BitVec 32 := Scalar.extui v144
  let c0_i32_86 : BitVec 32 := 0#32
  let v146 : BitVec 1 := Scalar.cmpi .ne v145 c0_i32_86
  v146

def k0_off29 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off30 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_250 : BitVec 32 := 0#32
  let c0_i32_251 : BitVec 32 := 0#32
  ![v12.toNat, 0, 0]
def k0_dev30 : Nat :=
  let c0_i32_247 : BitVec 32 := 0#32
  let c1_i32_243 : BitVec 32 := 1#32
  let c8_i32_246 : BitVec 32 := 8#32
  let v252 : BitVec 32 := Scalar.muli c1_i32_243 c8_i32_246
  let v253 : BitVec 32 := Scalar.addi c0_i32_247 v252
  let c1_i32_244 : BitVec 32 := 1#32
  let c4_i32_248 : BitVec 32 := 4#32
  let v254 : BitVec 32 := Scalar.muli c1_i32_244 c4_i32_248
  let v255 : BitVec 32 := Scalar.addi v253 v254
  let c1_i32_245 : BitVec 32 := 1#32
  let c1_i32_249 : BitVec 32 := 1#32
  let v256 : BitVec 32 := Scalar.muli c1_i32_245 c1_i32_249
  let v257 : BitVec 32 := Scalar.addi v255 v256
  v257.toNat
def k0_cond31 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c14_i32_87 : BitVec 32 := 14#32
  let v147 : BitVec 1 := Scalar.cmpi .ne v12 c14_i32_87
  let v148 : BitVec 32 := Scalar.extui v147
  let c0_i32_89 : BitVec 32 := 0#32
  let v149 : BitVec 1 := Scalar.cmpi .ne v148 c0_i32_89
  v149

def k0_off31 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off32 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_250 : BitVec 32 := 0#32
  let c0_i32_251 : BitVec 32 := 0#32
  ![v12.toNat, 0, 0]
def k0_dev31 : Nat :=
  let c0_i32_247 : BitVec 32 := 0#32
  let c1_i32_243 : BitVec 32 := 1#32
  let c8_i32_246 : BitVec 32 := 8#32
  let v252 : BitVec 32 := Scalar.muli c1_i32_243 c8_i32_246
  let v253 : BitVec 32 := Scalar.addi c0_i32_247 v252
  let c1_i32_244 : BitVec 32 := 1#32
  let c4_i32_248 : BitVec 32 := 4#32
  let v254 : BitVec 32 := Scalar.muli c1_i32_244 c4_i32_248
  let v255 : BitVec 32 := Scalar.addi v253 v254
  let c2_i32_245 : BitVec 32 := 2#32
  let c1_i32_249 : BitVec 32 := 1#32
  let v256 : BitVec 32 := Scalar.muli c2_i32_245 c1_i32_249
  let v257 : BitVec 32 := Scalar.addi v255 v256
  v257.toNat
def k0_cond32 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c15_i32_90 : BitVec 32 := 15#32
  let v150 : BitVec 1 := Scalar.cmpi .ne v12 c15_i32_90
  let v151 : BitVec 32 := Scalar.extui v150
  let c0_i32_92 : BitVec 32 := 0#32
  let v152 : BitVec 1 := Scalar.cmpi .ne v151 c0_i32_92
  v152

def k0_off33 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off34 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_250 : BitVec 32 := 0#32
  let c0_i32_251 : BitVec 32 := 0#32
  ![v12.toNat, 0, 0]
def k0_dev32 : Nat :=
  let c0_i32_247 : BitVec 32 := 0#32
  let c1_i32_243 : BitVec 32 := 1#32
  let c8_i32_246 : BitVec 32 := 8#32
  let v252 : BitVec 32 := Scalar.muli c1_i32_243 c8_i32_246
  let v253 : BitVec 32 := Scalar.addi c0_i32_247 v252
  let c1_i32_244 : BitVec 32 := 1#32
  let c4_i32_248 : BitVec 32 := 4#32
  let v254 : BitVec 32 := Scalar.muli c1_i32_244 c4_i32_248
  let v255 : BitVec 32 := Scalar.addi v253 v254
  let c3_i32_245 : BitVec 32 := 3#32
  let c1_i32_249 : BitVec 32 := 1#32
  let v256 : BitVec 32 := Scalar.muli c3_i32_245 c1_i32_249
  let v257 : BitVec 32 := Scalar.addi v255 v256
  v257.toNat
def k0_cond49 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_195 : BitVec 32 := 0#32
  let v204 : BitVec 1 := Scalar.cmpi .ne v12 c0_i32_195
  let v205 : BitVec 32 := Scalar.extui v204
  let c0_i32_197 : BitVec 32 := 0#32
  let v206 : BitVec 1 := Scalar.cmpi .ne v205 c0_i32_197
  v206

def k0_off35 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_247 : BitVec 32 := 0#32
  let c0_i32_248 : BitVec 32 := 0#32
  ![v12.toNat, 0, 0]
def k0_cond50 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c1_i32_198 : BitVec 32 := 1#32
  let v207 : BitVec 1 := Scalar.cmpi .ne v12 c1_i32_198
  let v208 : BitVec 32 := Scalar.extui v207
  let c0_i32_200 : BitVec 32 := 0#32
  let v209 : BitVec 1 := Scalar.cmpi .ne v208 c0_i32_200
  v209

def k0_off36 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_247 : BitVec 32 := 0#32
  let c0_i32_248 : BitVec 32 := 0#32
  ![v12.toNat, 0, 0]
def k0_cond51 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c2_i32_201 : BitVec 32 := 2#32
  let v210 : BitVec 1 := Scalar.cmpi .ne v12 c2_i32_201
  let v211 : BitVec 32 := Scalar.extui v210
  let c0_i32_203 : BitVec 32 := 0#32
  let v212 : BitVec 1 := Scalar.cmpi .ne v211 c0_i32_203
  v212

def k0_off37 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_247 : BitVec 32 := 0#32
  let c0_i32_248 : BitVec 32 := 0#32
  ![v12.toNat, 0, 0]
def k0_cond52 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c3_i32_204 : BitVec 32 := 3#32
  let v213 : BitVec 1 := Scalar.cmpi .ne v12 c3_i32_204
  let v214 : BitVec 32 := Scalar.extui v213
  let c0_i32_206 : BitVec 32 := 0#32
  let v215 : BitVec 1 := Scalar.cmpi .ne v214 c0_i32_206
  v215

def k0_off38 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_247 : BitVec 32 := 0#32
  let c0_i32_248 : BitVec 32 := 0#32
  ![v12.toNat, 0, 0]
def k0_cond53 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c4_i32_207 : BitVec 32 := 4#32
  let v216 : BitVec 1 := Scalar.cmpi .ne v12 c4_i32_207
  let v217 : BitVec 32 := Scalar.extui v216
  let c0_i32_209 : BitVec 32 := 0#32
  let v218 : BitVec 1 := Scalar.cmpi .ne v217 c0_i32_209
  v218

def k0_off39 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_247 : BitVec 32 := 0#32
  let c0_i32_248 : BitVec 32 := 0#32
  ![v12.toNat, 0, 0]
def k0_cond54 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c5_i32_210 : BitVec 32 := 5#32
  let v219 : BitVec 1 := Scalar.cmpi .ne v12 c5_i32_210
  let v220 : BitVec 32 := Scalar.extui v219
  let c0_i32_212 : BitVec 32 := 0#32
  let v221 : BitVec 1 := Scalar.cmpi .ne v220 c0_i32_212
  v221

def k0_off40 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_247 : BitVec 32 := 0#32
  let c0_i32_248 : BitVec 32 := 0#32
  ![v12.toNat, 0, 0]
def k0_cond55 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c6_i32_213 : BitVec 32 := 6#32
  let v222 : BitVec 1 := Scalar.cmpi .ne v12 c6_i32_213
  let v223 : BitVec 32 := Scalar.extui v222
  let c0_i32_215 : BitVec 32 := 0#32
  let v224 : BitVec 1 := Scalar.cmpi .ne v223 c0_i32_215
  v224

def k0_off41 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_247 : BitVec 32 := 0#32
  let c0_i32_248 : BitVec 32 := 0#32
  ![v12.toNat, 0, 0]
def k0_cond56 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c7_i32_216 : BitVec 32 := 7#32
  let v225 : BitVec 1 := Scalar.cmpi .ne v12 c7_i32_216
  let v226 : BitVec 32 := Scalar.extui v225
  let c0_i32_218 : BitVec 32 := 0#32
  let v227 : BitVec 1 := Scalar.cmpi .ne v226 c0_i32_218
  v227

def k0_off42 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_247 : BitVec 32 := 0#32
  let c0_i32_248 : BitVec 32 := 0#32
  ![v12.toNat, 0, 0]
def k0_cond57 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c8_i32_219 : BitVec 32 := 8#32
  let v228 : BitVec 1 := Scalar.cmpi .ne v12 c8_i32_219
  let v229 : BitVec 32 := Scalar.extui v228
  let c0_i32_221 : BitVec 32 := 0#32
  let v230 : BitVec 1 := Scalar.cmpi .ne v229 c0_i32_221
  v230

def k0_off43 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_247 : BitVec 32 := 0#32
  let c0_i32_248 : BitVec 32 := 0#32
  ![v12.toNat, 0, 0]
def k0_cond58 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c9_i32_222 : BitVec 32 := 9#32
  let v231 : BitVec 1 := Scalar.cmpi .ne v12 c9_i32_222
  let v232 : BitVec 32 := Scalar.extui v231
  let c0_i32_224 : BitVec 32 := 0#32
  let v233 : BitVec 1 := Scalar.cmpi .ne v232 c0_i32_224
  v233

def k0_off44 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_247 : BitVec 32 := 0#32
  let c0_i32_248 : BitVec 32 := 0#32
  ![v12.toNat, 0, 0]
def k0_cond59 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c10_i32_225 : BitVec 32 := 10#32
  let v234 : BitVec 1 := Scalar.cmpi .ne v12 c10_i32_225
  let v235 : BitVec 32 := Scalar.extui v234
  let c0_i32_227 : BitVec 32 := 0#32
  let v236 : BitVec 1 := Scalar.cmpi .ne v235 c0_i32_227
  v236

def k0_off45 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_247 : BitVec 32 := 0#32
  let c0_i32_248 : BitVec 32 := 0#32
  ![v12.toNat, 0, 0]
def k0_cond60 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c11_i32_228 : BitVec 32 := 11#32
  let v237 : BitVec 1 := Scalar.cmpi .ne v12 c11_i32_228
  let v238 : BitVec 32 := Scalar.extui v237
  let c0_i32_230 : BitVec 32 := 0#32
  let v239 : BitVec 1 := Scalar.cmpi .ne v238 c0_i32_230
  v239

def k0_off46 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_247 : BitVec 32 := 0#32
  let c0_i32_248 : BitVec 32 := 0#32
  ![v12.toNat, 0, 0]
def k0_cond61 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c12_i32_231 : BitVec 32 := 12#32
  let v240 : BitVec 1 := Scalar.cmpi .ne v12 c12_i32_231
  let v241 : BitVec 32 := Scalar.extui v240
  let c0_i32_233 : BitVec 32 := 0#32
  let v242 : BitVec 1 := Scalar.cmpi .ne v241 c0_i32_233
  v242

def k0_off47 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_247 : BitVec 32 := 0#32
  let c0_i32_248 : BitVec 32 := 0#32
  ![v12.toNat, 0, 0]
def k0_cond62 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c13_i32_234 : BitVec 32 := 13#32
  let v243 : BitVec 1 := Scalar.cmpi .ne v12 c13_i32_234
  let v244 : BitVec 32 := Scalar.extui v243
  let c0_i32_236 : BitVec 32 := 0#32
  let v245 : BitVec 1 := Scalar.cmpi .ne v244 c0_i32_236
  v245

def k0_off48 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_247 : BitVec 32 := 0#32
  let c0_i32_248 : BitVec 32 := 0#32
  ![v12.toNat, 0, 0]
def k0_cond63 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c14_i32_237 : BitVec 32 := 14#32
  let v246 : BitVec 1 := Scalar.cmpi .ne v12 c14_i32_237
  let v247 : BitVec 32 := Scalar.extui v246
  let c0_i32_239 : BitVec 32 := 0#32
  let v248 : BitVec 1 := Scalar.cmpi .ne v247 c0_i32_239
  v248

def k0_off49 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_247 : BitVec 32 := 0#32
  let c0_i32_248 : BitVec 32 := 0#32
  ![v12.toNat, 0, 0]
def k0_cond64 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c15_i32_240 : BitVec 32 := 15#32
  let v249 : BitVec 1 := Scalar.cmpi .ne v12 c15_i32_240
  let v250 : BitVec 32 := Scalar.extui v249
  let c0_i32_242 : BitVec 32 := 0#32
  let v251 : BitVec 1 := Scalar.cmpi .ne v250 c0_i32_242
  v251

def k0_off50 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_3 : BitVec 32 := 4#32
  let v11 : BitVec 32 := Scalar.muli v10 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_247 : BitVec 32 := 0#32
  let c0_i32_248 : BitVec 32 := 0#32
  ![v12.toNat, 0, 0]
abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2x1024 : Shape := ⟨2, ![2, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .i32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S1x1024, .f32⟩
  | .hbm, ⟨51, _⟩ => ⟨S2x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Slots.lean ====
/-
The sixteen slots of the exchange buffer.

The kernel's scratch buffer `cc0_scratch2` has one slot of shape 2x1024 per device: slot `s` is where device `s`'s
partial sums are kept, on every device. This module names the slots, shows that they cut the buffer into disjoint
pieces, and states what a write into one of them leaves there.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Ring
public import Idealize.ShloMosaic.Lib.Tactic

@[expose] public section

noncomputable section

namespace Cert.LnGrad

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.Sem

variable {F : FTy → Type} [FloatOps F]

/-! ## The buffers the body works on -/

/-- This device's rows of `x`, copied in. -/
abbrev xM : Memref sig .tc .vmem S256x1024 .f32 := Memref.whole cc0_scratch0
/-- This device's rows of `dy`, copied in. -/
abbrev dyM : Memref sig .tc .vmem S256x1024 .f32 := Memref.whole cc0_scratch1
/-- The exchange buffer. -/
abbrev cM : Memref sig .tc .vmem S16x2x1024 .f32 := Memref.whole cc0_scratch2
/-- The result's staging buffer. -/
abbrev oM : Memref sig .tc .vmem S2x1024 .f32 := Memref.whole cc0_stg0_0

/-! ## The slots -/

/-- Where slot `s` begins. -/
def slotOff (s : Fin 16) : Fin 3 → ℕ := ![s.val, 0, 0]

/-- A slot lies inside the exchange buffer. -/
theorem slotOff_inb (s : Fin 16) : ∀ a, slotOff s a + S1x2x1024.size a ≤ S16x2x1024.size a := by revert s; decide +kernel

/-- Slot `s`, as a rectangle of the exchange buffer. -/
abbrev slotRect (s : Fin 16) : Rect S16x2x1024 := Rect.unit (s := S16x2x1024) (slotOff s) S1x2x1024.size (slotOff_inb s)

/-- Slot `s`, as a 2x1024 memref. -/
abbrev slotM (s : Fin 16) : Memref sig .tc .vmem S2x1024 .f32 :=
  (cM.slice (slotRect s) (fun _ => rfl)).squeeze S2x1024 squeezes_S1x2x1024_S2x1024

/-- The indices of the exchange buffer that slot `s` takes. -/
def slotSet (s : Fin 16) : Finset S16x2x1024.Idx := (slotRect s).set

/-- The memref takes those indices, -/
theorem slotM_set (s : Fin 16) : (slotM s).view.set = slotSet s :=
  (View.set_reshape _ _).trans (View.set_slice_whole _ _)

/-- and so does a store to the rectangle. -/
theorem slotAccess_set (s : Fin 16) : (cM.access (slotRect s)).set = slotSet s := View.set_slice_whole _ _

/-- An index lies in slot `s` when its first coordinate is `s`. -/
theorem mem_slotSet {s : Fin 16} {i : S16x2x1024.Idx} : i ∈ slotSet s ↔ (i 0).val = s.val := by
  unfold slotSet
  rw [Rect.mem_set_unit]
  constructor
  · intro h
    have h0 := h 0
    simp only [slotOff, Matrix.cons_val_zero] at h0
    have : S1x2x1024.size 0 = 1 := rfl
    omega
  · intro h a
    fin_cases a
    · show s.val ≤ (i 0).val ∧ (i 0).val < s.val + 1
      omega
    · exact ⟨Nat.zero_le _, by show (i 1).val < 0 + 2; have := (i 1).isLt; exact (Nat.zero_add 2).symm ▸ this⟩
    · exact ⟨Nat.zero_le _, by show (i 2).val < 0 + 1024; have := (i 2).isLt; exact (Nat.zero_add 1024).symm ▸ this⟩

/-- Different slots share no index, -/
theorem slotSet_disjoint (s t : Fin 16) (h : s ≠ t) : Disjoint (slotSet s) (slotSet t) :=
  Finset.disjoint_left.mpr fun i hs ht => h (Fin.ext ((mem_slotSet.mp hs).symm.trans (mem_slotSet.mp ht)))

/-- and together they take all. -/
theorem slotSet_cover : Finset.univ.biUnion slotSet = (Finset.univ : Finset S16x2x1024.Idx) :=
  Finset.eq_univ_of_forall fun i => Finset.mem_biUnion.mpr ⟨⟨(i 0).val, (i 0).isLt⟩, Finset.mem_univ _, mem_slotSet.mpr rfl⟩

/-- Copying a slot of `g` over a slot of `f` leaves `g` on that slot. -/
theorem slot_copy (s : Fin 16) (f g : (cc0_scratch2 : Ref sig .tc).ty.Contents (Elt F)) :
    ∀ i ∈ slotSet s, (slotM s).view.write (Elt F) f ((slotM s).view.read (Elt F) g) Finset.univ i = g i := by
  intro i hi
  rw [View.write_read_eq_piecewise]
  exact Finset.piecewise_eq_of_mem _ _ _ (by rw [← slotM_set] at hi; exact hi)

/-- Storing what slot `s` of `g` holds into slot `s` of `f` leaves `g` on that slot. -/
theorem slot_store (s : Fin 16) (f g : (cc0_scratch2 : Ref sig .tc).ty.Contents (Elt F)) (w : S1x2x1024.Idx → Elt F .f32)
    (hw : (cM.access (slotRect s)).read (Elt F) g = w) :
    ∀ i ∈ slotSet s, (cM.access (slotRect s)).write (Elt F) f w Finset.univ i = g i := by
  intro i hi
  rw [← hw, View.write_read_eq_piecewise]
  exact Finset.piecewise_eq_of_mem _ _ _ (by rw [← slotAccess_set] at hi; exact hi)

end Cert.LnGrad
-- ==== Proof.Protocol.lean ====
/-
The cross-device protocol of the exchange.

Semaphores of device `c`, and what they carry:

* its BARRIER semaphore: every other device `d` signals it once, at its start. The signal hands `c` slot `c` of
  `d`'s exchange buffer, at any contents: `c` may write its sums there. `c` waits for the fifteen signals together.
* its two COPY semaphores: `c`'s own copies of its 256 rows of `x` and of `dy`. Each hands back the rows copied.
* its sixteen SEND semaphores: `c`'s copy to device `t` completes on number `t`, and hands back the share of `c`'s own
  slot `c` that the copy read. Number `c` stays unused.
* its sixteen RECEIVE semaphores: device `s`'s copy to `c` completes on number `s`, and hands `c` its slot `s` holding
  `s`'s sums. Number `c` stays unused.

A device waits on its barrier owing only copies, and on its receive semaphores owing nothing; with barriers below
receive semaphores no wait is circular. Everything happens once, in round 0 of the rounds library.
-/
module

public import proofs.«01_k».proof.Proof.Slots

@[expose] public section

noncomputable section

namespace Cert.LnGrad

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The ghost state of the exchange's rounds, -/
abbrev UB : Type := URounds (GSem nD τ sig) (Dev nD)
/-- beside that of the staging pipeline. -/
abbrev UU : Type := UR sig nD τ × UB

local notation "𝕄" => MT nD τ sig Unit (Elt F) ℕ UU ℕ

/-- The pipeline's part of the ghost state, -/
abbrev EP : Emb (UR sig nD τ) (MT nD τ sig Unit (Elt F) ℕ UU ℕ) := embL
/-- and the exchange's. -/
abbrev ER : Emb UB (MT nD τ sig Unit (Elt F) ℕ UU ℕ) := embR

variable (m : (ℓ : Loc nD τ sig) → Buf (Elt F) ℓ)

/-! ## Semaphores -/

/-- The kernel's scoped semaphores: two for the copies in, sixteen for sends, sixteen for receives. -/
abbrev OwnK : Type := Fin 2 ⊕ (Fin 16 ⊕ Fin 16)
/-- With the runtime's barrier. -/
abbrev CK : Type := Unit ⊕ OwnK

/-- The barrier, -/
abbrev bar : CK := .inl ()
/-- the semaphore of copy in `j` (0 for `x`, 1 for `dy`), -/
abbrev copy (j : Fin 2) : CK := .inr (.inl j)
/-- that of the copy to device `t` leaving, -/
abbrev send (t : Fin 16) : CK := .inr (.inr (.inl t))
/-- and that of device `s`'s copy arriving. -/
abbrev recv (s : Fin 16) : CK := .inr (.inr (.inr s))

/-- The barrier's semaphore, as the kernel names it, -/
abbrev barS : Sem sig := (SemArray.scalar (sig.barrier 0 rfl) : Sems sig S_).sem
set_option backward.proofsInPublic true in
/-- and the numbers of the copy semaphores, -/
def copyS (j : Fin 2) : DmaSem sig := ⟨1 + j.val, by show 1 + j.val < 35; omega⟩
set_option backward.proofsInPublic true in
/-- of the send semaphores, -/
def sendS (t : Fin 16) : DmaSem sig := ⟨3 + t.val, by show 3 + t.val < 35; omega⟩
set_option backward.proofsInPublic true in
/-- and of the receive semaphores among all semaphores. -/
def recvS (s : Fin 16) : DmaSem sig := ⟨19 + s.val, by show 19 + s.val < 35; omega⟩

/-- Where each scoped semaphore is, -/
def osem : OwnK → SemLoc sig
  | .inl j => .dma (copyS j)
  | .inr (.inl t) => .dma (sendS t)
  | .inr (.inr s) => .dma (recvS s)

/-- and each semaphore of the exchange. -/
def csem : CK → SemLoc sig
  | .inl _ => .reg barS
  | .inr k => osem k

/-- Different kinds are different scoped semaphores, -/
theorem osem_injective : Function.Injective osem := by
  have hc (a b : Fin 35) (h : (SemLoc.dma a : SemLoc sig) = .dma b) : a.val = b.val := by cases h; rfl
  rintro (j | t | s) (j' | t' | s') h <;> have := hc _ _ h <;> simp only [copyS, sendS, recvS] at this <;>
    first | (congr 1; first | (apply Fin.ext; omega) | (congr 1; apply Fin.ext; omega)) | (exfalso; omega)

/-- and different semaphores of the exchange. -/
theorem csem_injective : Function.Injective csem := by
  have hr (k : OwnK) : csem (.inr k) ≠ .reg barS := by rcases k with j | t | s <;> exact fun h => by cases h
  rintro (_ | k) (_ | k') h
  · rfl
  · exact absurd h.symm (hr k')
  · exact absurd h (hr k)
  · exact congrArg _ (osem_injective h)

/-- Semaphore `k` of device `c`. -/
abbrev kcell (c : Dev nD) (k : CK) : GSem nD τ sig := ((c : Thread nD τ), csem k)

/-- Different devices or kinds are different semaphores. -/
theorem kcell_injective : Function.Injective fun ck : Dev nD × CK => kcell ck.1 ck.2 := by
  rintro ⟨c, k⟩ ⟨c', k'⟩ h
  have h1 : c = c' := congrArg (fun g : GSem nD τ sig => g.1.1) h
  have h2 : k = k' := csem_injective (congrArg Prod.snd h)
  rw [h1, h2]

/-- Which of the kernel's semaphores this is, if any. -/
def kindOf (l : SemLoc sig) : Option CK := Function.partialInv csem l

/-- The kind of a semaphore of the exchange is its kind. -/
theorem kindOf_csem (k : CK) : kindOf (csem k) = some k := Function.partialInv_left csem_injective k

/-! ## Amounts -/

/-- What a copy of a slot credits, -/
def N : ℕ := (slotM 0).view.dmaCredit
/-- which is something, -/
theorem N_pos : 0 < N := View.dmaCredit_pos _ (by decide)
/-- and the same for every slot; -/
theorem slot_credit (s : Fin 16) : (slotM s).view.dmaCredit = N := rfl

/-- what each copy in credits, -/
def copyAmt (j : Fin 2) : ℕ := if j = 0 then xM.view.dmaCredit else dyM.view.dmaCredit
/-- which is something, -/
theorem copyAmt_pos (j : Fin 2) : 0 < copyAmt j := by
  unfold copyAmt
  split
  · exact View.dmaCredit_pos _ (by decide)
  · exact View.dmaCredit_pos _ (by decide)

/-- and what one duty of each semaphore credits. -/
def amtK : CK → ℕ
  | .inl _ => 1
  | .inr (.inl j) => copyAmt j
  | .inr (.inr _) => N

/-- No duty is for nothing. -/
theorem amtK_pos : ∀ k, 0 < amtK k
  | .inl _ => Nat.one_pos
  | .inr (.inl j) => copyAmt_pos j
  | .inr (.inr _) => N_pos

/-! ## Contents -/

/-- The argument `x`, -/
abbrev xArr : Memref sig .tc .hbm S1024x1024 .f32 := Memref.whole main_arg0
/-- and `dy`, whole. -/
abbrev dyArr : Memref sig .tc .hbm S1024x1024 .f32 := Memref.whole main_arg1

/-- The rows of an argument that device `c` works on. -/
abbrev rowsOf (A : Memref sig .tc .hbm S1024x1024 .f32) (c : Dev nD) : Memref sig .tc .hbm S256x1024 .f32 :=
  A.slice (Rect.unit (s := S1024x1024) (k0_off1 c) S256x1024.size (k0_off1_inb c)) (fun _ => rfl)

/-- The rows of `x` that device `c` works on, -/
def xRows (c : Dev nD) : (cc0_scratch0 : Ref sig .tc).ty.Contents (Elt F) :=
  (rowsOf xArr c).view.read (Elt F) (m ((c : Thread nD τ).loc main_arg0))
/-- and those of `dy`. -/
def dyRows (c : Dev nD) : (cc0_scratch1 : Ref sig .tc).ty.Contents (Elt F) :=
  (rowsOf dyArr c).view.read (Elt F) (m ((c : Thread nD τ).loc main_arg1))

/-- Device `s`'s partial sums: a row for `dgamma` and a row for `dbeta`. -/
def partSums (s : Dev nD) : FVec F S1x2x1024 .f32 := k0_pay3 (k0_pay1 (xRows m s) (dyRows m s)) (k0_pay2 (dyRows m s))

/-- The index inside a slot of an index of the exchange buffer. -/
def inSlot (i : S16x2x1024.Idx) : S1x2x1024.Idx := fun a => match a with
  | ⟨0, _⟩ => ⟨0, Nat.one_pos⟩ | ⟨1, _⟩ => i 1 | ⟨2, _⟩ => i 2

/-- The exchange buffer at the end, the same on every device: slot `s` holds device `s`'s sums. -/
def gathered : (cc0_scratch2 : Ref sig .tc).ty.Contents (Elt F) := fun i => partSums m (i 0) (inSlot i)

/-- The result, the same on every device: the sum of the slots. -/
def outAt : (cc0_stg0_0 : Ref sig .tc).ty.Contents (Elt F) := k0_pay4 (gathered m)

/-- Slot `s` of that buffer reads as device `s`'s sums. -/
theorem gathered_slot (s : Fin 16) : (cM.access (slotRect s)).read (Elt F) (gathered m) = partSums m s := by
  funext j
  show partSums m ((slotRect s).emb j 0) (inSlot ((slotRect s).emb j)) = partSums m s j
  have hj0 : (j 0).val = 0 := Nat.lt_one_iff.mp (j 0).isLt
  have h0 : (slotRect s).emb j 0 = s := Fin.ext (by
    show s.val + 1 * (j 0).val = s.val
    omega)
  have h1 : inSlot ((slotRect s).emb j) = j := by
    funext a
    fin_cases a
    · exact Fin.ext hj0.symm
    · exact Fin.ext (by show 0 + 1 * (j 1).val = (j 1).val; omega)
    · exact Fin.ext (by show 0 + 1 * (j 2).val = (j 2).val; omega)
  rw [h0, h1]

/-! ## Holding slots and rows -/

/-- Slot `s` of device `d`'s exchange buffer, at share `q` and contents `f`. -/
def slotPts (d : Dev nD) (s : Fin 16) (q : PosShare TreeShare) (f : (cc0_scratch2 : Ref sig .tc).ty.Contents (Elt F)) : sProp 𝕄 :=
  (d : Thread nD τ).loc cc0_scratch2 ↦[slotSet s]{q} f

/-- Device `d`'s slot `s` at its final contents. -/
abbrev slotDone (d : Dev nD) (s : Fin 16) (q : PosShare TreeShare) : sProp 𝕄 := slotPts d s q (gathered m)

/-- The sixteenth of a full share that the copy to device `t` reads. -/
abbrev sixteenth (t : Fin 16) : PosShare TreeShare := ShareLeaves.leaf 4 fullShare t

/-- The source rows of a copy in, at their contents at launch, -/
def srcPts (j : Fin 2) (c : Dev nD) : sProp 𝕄 := if j = 0
  then (rowsOf xArr c).view.loc (c : Thread nD τ) ↦[(rowsOf xArr c).view.set]{fullShare} m ((c : Thread nD τ).loc main_arg0)
  else (rowsOf dyArr c).view.loc (c : Thread nD τ) ↦[(rowsOf dyArr c).view.set]{fullShare} m ((c : Thread nD τ).loc main_arg1)
/-- and the rows copied. -/
def dstPts (j : Fin 2) (c : Dev nD) : sProp 𝕄 := if j = 0
  then (c : Thread nD τ).loc cc0_scratch0 ↦{fullShare} xRows m c
  else (c : Thread nD τ).loc cc0_scratch1 ↦{fullShare} dyRows m c

instance slotPts_storable (d : Dev nD) (s : Fin 16) (q : PosShare TreeShare) (f) :
    BI.Storable (upEmb : UEmb _ 𝕄) (slotPts (F := F) d s q f) := by unfold slotPts; infer_instance
instance srcPts_storable (j : Fin 2) (c : Dev nD) : BI.Storable (upEmb : UEmb _ 𝕄) (srcPts (F := F) m j c) := by
  unfold srcPts; split <;> infer_instance
instance dstPts_storable (j : Fin 2) (c : Dev nD) : BI.Storable (upEmb : UEmb _ 𝕄) (dstPts (F := F) m j c) := by
  unfold dstPts; split <;> infer_instance

/-! ## The schedule -/

/-- Who pays semaphore `k` of device `c`: everyone else the barrier, `c` its own copies and sends, `s` receive `s`. -/
def dutyK (c : Dev nD) : CK → Finset (Dev nD)
  | .inl _ => Finset.univ.erase c
  | .inr (.inl _) => {c}
  | .inr (.inr (.inl t)) => if t = c then ∅ else {c}
  | .inr (.inr (.inr s)) => if s = c then ∅ else {s}

/-- What a payment of semaphore `k` of device `c` by device `d` hands to `c`. -/
def payK (c : Dev nD) : CK → Dev nD → sProp 𝕄
  | .inl _, d => iprop(∃ f, slotPts d c fullShare f)
  | .inr (.inl j), _ => iprop(dstPts m j c ∗ srcPts m j c)
  | .inr (.inr (.inl t)), _ => slotDone m c c (sixteenth t)
  | .inr (.inr (.inr s)), _ => slotDone m c s fullShare

instance payK_storable (c : Dev nD) (k : CK) (d : Dev nD) : BI.Storable (upEmb : UEmb _ 𝕄) (payK (F := F) m c k d) := by
  rcases k with _ | j | t | s <;> unfold payK <;> infer_instance

/-- The protocol: everything in round 0. -/
def Rd : Rounds.Schedule (GSem nD τ sig) (Dev nD) 𝕄 where
  duties g r := if r = 0 ∧ g.1.2 = .tc then (kindOf g.2).elim ∅ (dutyK g.1.1) else ∅
  unitless _ := False
  amount g _ _ := (kindOf g.2).elim 1 amtK
  payload g _ d := (kindOf g.2).elim iprop(emp) fun k => payK m g.1.1 k d
  amount_pos g _ _ _ := by
    rcases kindOf g.2 with _ | k
    · exact Nat.one_pos
    · exact amtK_pos k

instance Rd_payload_storable (g : GSem nD τ sig) (r : ℕ) (d : Dev nD) :
    BI.Storable (upEmb : UEmb _ 𝕄) ((Rd (F := F) m).payload g r d) := by
  show BI.Storable upEmb ((kindOf g.2).elim iprop(emp) fun k => payK m g.1.1 k d)
  rcases kindOf g.2 with _ | k
  · exact (inferInstance : BI.Storable (upEmb : UEmb _ 𝕄) (iprop(emp) : sProp _))
  · exact payK_storable m g.1.1 k d

/-- Who pays a semaphore in its one round, -/
theorem duties_eq (c : Dev nD) (k : CK) : (Rd (F := F) m).duties (kcell c k) 0 = dutyK c k := by
  dsimp only [Rd]; rw [if_pos ⟨rfl, rfl⟩, kindOf_csem]; rfl
/-- nobody later, -/
theorem duties_later (g : GSem nD τ sig) : ∀ r, 1 ≤ r → (Rd (F := F) m).duties g r = ∅ :=
  fun r hr => by dsimp only [Rd]; exact if_neg fun h => by omega
/-- and nobody at all where none is due; -/
theorem duties_none (c : Dev nD) (k : CK) (h : dutyK c k = ∅) : ∀ r, 0 ≤ r → (Rd (F := F) m).duties (kcell c k) r = ∅ := fun r _ => by
  rcases Nat.eq_zero_or_pos r with rfl | hr
  · rw [duties_eq, h]
  · exact duties_later m _ r hr
/-- how much each pays, -/
theorem amount_eq (c : Dev nD) (k : CK) (d : Dev nD) : (Rd (F := F) m).amount (kcell c k) 0 d = amtK k := by
  dsimp only [Rd]; rw [kindOf_csem]; rfl
/-- what each hands over, -/
theorem payload_eq (c : Dev nD) (k : CK) (d : Dev nD) : (Rd (F := F) m).payload (kcell c k) 0 d = payK m c k d := by
  dsimp only [Rd]; rw [kindOf_csem]; rfl
/-- and what comes in together. -/
theorem expect_eq (c : Dev nD) (k : CK) : (Rd (F := F) m).expect (kcell c k) 0 = (dutyK c k).card * amtK k := by
  unfold Schedule.expect Schedule.amountOf
  rw [duties_eq, Finset.sum_congr rfl fun d _ => amount_eq m c k d, Finset.sum_const, smul_eq_mul]
/-- What a wait for the whole round returns: every payment. -/
theorem rest_eq (c : Dev nD) (k : CK) :
    bigSep ((Rd (F := F) m).duties (kcell c k) 0 \ ∅) (fun d => (Rd (F := F) m).payload (kcell c k) 0 d)
      = bigSep (dutyK c k) fun d => payK m c k d := by
  rw [Finset.sdiff_empty, duties_eq]; exact bigSep_congr fun d _ => payload_eq m c k d

/-- A send semaphore is paid by its own device, -/
theorem dutyK_send {c : Dev nD} {t : Fin 16} (h : t ≠ c) : dutyK c (send t) = {c} := if_neg h
/-- a receive semaphore by the sender. -/
theorem dutyK_recv {c : Dev nD} {s : Fin 16} (h : s ≠ c) : dutyK c (recv s) = {s} := if_neg h

/-! ## What each device owes at launch; the levels -/

/-- The copies device `c` still owes when it has sent to no device of `S`, -/
def owedSends (c : Dev nD) (S : Finset (Dev nD)) : CellTallies nD τ sig Unit := ∑ t ∈ S, tallyAt (kcell t (recv c)) () N
/-- and the signals it still owes. -/
def owedSignals (S : Finset (Dev nD)) : CellTallies nD τ sig Unit := ∑ t ∈ S, tallyAt (kcell t bar) () 1

/-- At launch it owes every other device both. -/
def O₀ (c : Dev nD) : CellTallies nD τ sig Unit := owedSends c (Finset.univ.erase c) + owedSignals (Finset.univ.erase c)

/-- The levels of the kinds: a device waits only for what lies below all it owes. -/
def lvK : CK → ℕ
  | .inl _ => 1
  | .inr (.inr (.inr _)) => 2
  | _ => 0

/-- Every semaphore of a core has the one label. -/
def L (g : GSem nD τ sig) : Finset Unit := if g.1.2 = .tc then {()} else ∅
/-- Receive semaphores above barriers above everything else. -/
def lv (g : GSem nD τ sig) (_ : Unit) : ℕ := (kindOf g.2).elim 0 lvK

/-- No other thread's semaphore has a label, -/
theorem L_of_ne (g : GSem nD τ sig) (h : g.1.2 ≠ .tc) : L g = ∅ := if_neg h
/-- and each of a core's has it. -/
theorem L_tc (c : Dev nD) (sm : SemLoc sig) : L ((c : Thread nD τ), sm) = {()} := if_pos rfl
/-- The level of a semaphore is its kind's. -/
theorem lv_eq (c : Dev nD) (k : CK) (u : Unit) : lv (kcell c k) u = lvK k := by unfold lv; rw [kindOf_csem]; rfl

/-- A sum of debts owes something only to a semaphore of one of them. -/
theorem sum_tally_pos {ι : Type} [DecidableEq ι] {S : Finset ι} {cell : ι → GSem nD τ sig} {n : ℕ} {g : GSem nD τ sig} {u : Unit}
    (h : 0 < (∑ t ∈ S, (tallyAt (cell t) () n : CellTallies nD τ sig Unit)) g u) : ∃ t ∈ S, g = cell t := by
  induction S using Finset.induction_on with
  | empty => exact absurd h (Nat.lt_irrefl 0)
  | insert a S ha ih =>
    rw [Finset.sum_insert ha, Pi.add_apply, Finsupp.add_apply, tallyAt_apply] at h
    by_cases hg : g = cell a ∧ u = ()
    · exact ⟨a, Finset.mem_insert_self _ _, hg.1⟩
    · rw [if_neg hg, Nat.zero_add] at h
      obtain ⟨t, ht, e⟩ := ih h
      exact ⟨t, Finset.mem_insert_of_mem ht, e⟩

/-- What is owed at launch, or after, is owed to receive semaphores and to barriers. -/
theorem owed_pos {c : Dev nD} {S T : Finset (Dev nD)} {g : GSem nD τ sig} {u : Unit} (h : 0 < (owedSends c S + owedSignals T) g u) :
    (∃ t ∈ S, g = kcell t (recv c)) ∨ ∃ t ∈ T, g = kcell t bar := by
  rw [Pi.add_apply, Finsupp.add_apply] at h
  rcases Nat.eq_zero_or_pos (owedSends c S g u) with h0 | h0
  · exact .inr (sum_tally_pos (by rw [h0, Nat.zero_add] at h; exact h))
  · exact .inl (sum_tally_pos h0)

/-- A wait on a semaphore of level 0 is allowed whatever signals and copies are owed. -/
theorem mayWait_low (c : Dev nD) (sm : SemLoc sig) (hsm : lv ((c : Thread nD τ), sm) () = 0) (S T : Finset (Dev nD)) :
    (levAts L lv : sProp 𝕄) ⊢ MayWait (c : Thread nD τ) sm () (owedSends c S + owedSignals T) :=
  MayOwe.of_cut (L := L) (lev := lv) 0 (fun p hp => by rw [Finset.mem_singleton.mp hp, L_tc]; exact Finset.mem_singleton_self _)
    (fun g u hg => by rcases owed_pos hg with ⟨t, -, rfl⟩ | ⟨t, -, rfl⟩ <;> exact Finset.mem_singleton_self _)
    (fun p hp => by rw [Finset.mem_singleton.mp hp]; exact hsm.le)
    (fun g u hg => by
      rcases owed_pos hg with ⟨t, -, rfl⟩ | ⟨t, -, rfl⟩
      · rw [lv_eq]; exact Nat.two_pos
      · rw [lv_eq]; exact Nat.one_pos)

/-- The wait on the barrier is allowed when only copies are owed. -/
theorem mayWait_bar (c : Dev nD) (S : Finset (Dev nD)) :
    (levAts L lv : sProp 𝕄) ⊢ MayWait (c : Thread nD τ) (csem bar) () (owedSends c S) :=
  MayOwe.of_cut (L := L) (lev := lv) 1 (fun p hp => by rw [Finset.mem_singleton.mp hp, L_tc]; exact Finset.mem_singleton_self _)
    (fun g u hg => by obtain ⟨t, -, rfl⟩ := sum_tally_pos hg; exact Finset.mem_singleton_self _)
    (fun p hp => by rw [Finset.mem_singleton.mp hp]; exact (lv_eq c bar ()).le)
    (fun g u hg => by
      obtain ⟨t, -, rfl⟩ := sum_tally_pos hg
      rw [lv_eq]; exact Nat.one_lt_two)

end Cert.LnGrad
-- ==== Proof.Steps.lean ====
/-
One step of each phase of the exchange, for any device `c` and any other device `t`.

The kernel goes through the sixteen devices four times: it signals them, sends to them, waits for what they send, and
waits for its own sends. Each time the step for `t` is guarded by `t ≠ c`. For each phase this module states what `c`
holds when it has come to device number `n`, and that the step for device `n` leads to `n + 1`, whether the guard holds
or not.
-/
module

public import proofs.«01_k».proof.Proof.Protocol

@[expose] public section

noncomputable section

namespace Cert.LnGrad

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The programs loop on nothing, so no variant is needed. -/
abbrev 𝒱₀ : Variants := Variants.none

/-! ## The devices done and to do -/

/-- The other devices from number `n` on, -/
def todo (c : Dev nD) (n : ℕ) : Finset (Dev nD) := Finset.univ.filter fun d => n ≤ d.val ∧ d ≠ c
/-- and before number `n`. -/
def past (c : Dev nD) (n : ℕ) : Finset (Dev nD) := Finset.univ.filter fun d => d.val < n ∧ d ≠ c

/-- Membership among the devices to do, -/
theorem mem_todo {c d : Dev nD} {n : ℕ} : d ∈ todo c n ↔ n ≤ d.val ∧ d ≠ c := by simp [todo]
/-- and among those done. -/
theorem mem_past {c d : Dev nD} {n : ℕ} : d ∈ past c n ↔ d.val < n ∧ d ≠ c := by simp [past]

/-- A device done is not to do, -/
theorem todo_notMem (c t : Dev nD) : t ∉ todo c (t.val + 1) := fun h => absurd (mem_todo.mp h).1 (by omega)
/-- and one to do is not done. -/
theorem past_notMem (c t : Dev nD) : t ∉ past c t.val := fun h => absurd (mem_past.mp h).1 (by omega)

/-- Doing device `t` takes it from those to do, -/
theorem todo_step {c t : Dev nD} (h : t ≠ c) : todo c t.val = insert t (todo c (t.val + 1)) := by
  ext d
  rw [Finset.mem_insert, mem_todo, mem_todo]
  constructor
  · rintro ⟨h1, h2⟩
    rcases Nat.eq_or_lt_of_le h1 with e | e
    · exact .inl (Fin.ext e.symm)
    · exact .inr ⟨e, h2⟩
  · rintro (rfl | ⟨h1, h2⟩)
    · exact ⟨le_rfl, h⟩
    · exact ⟨by omega, h2⟩

/-- and adds it to those done. -/
theorem past_step {c t : Dev nD} (h : t ≠ c) : past c (t.val + 1) = insert t (past c t.val) := by
  ext d
  rw [Finset.mem_insert, mem_past, mem_past]
  constructor
  · rintro ⟨h1, h2⟩
    rcases Nat.eq_or_lt_of_le (Nat.le_of_lt_succ h1) with e | e
    · exact .inl (Fin.ext e)
    · exact .inr ⟨e, h2⟩
  · rintro (rfl | ⟨h1, h2⟩)
    · exact ⟨by omega, h⟩
    · exact ⟨by omega, h2⟩

/-- A device's own number is passed over among those to do, -/
theorem todo_skip (c : Dev nD) : todo c c.val = todo c (c.val + 1) := by
  ext d
  rw [mem_todo, mem_todo]
  refine ⟨fun ⟨h1, h2⟩ => ⟨?_, h2⟩, fun ⟨h1, h2⟩ => ⟨by omega, h2⟩⟩
  rcases Nat.eq_or_lt_of_le h1 with e | e
  · exact absurd (Fin.ext e.symm) h2
  · exact e

/-- and among those done. -/
theorem past_skip (c : Dev nD) : past c c.val = past c (c.val + 1) := by
  ext d
  rw [mem_past, mem_past]
  refine ⟨fun ⟨h1, h2⟩ => ⟨by omega, h2⟩, fun ⟨h1, h2⟩ => ⟨?_, h2⟩⟩
  rcases Nat.eq_or_lt_of_le (Nat.le_of_lt_succ h1) with e | e
  · exact absurd (Fin.ext e) h2
  · exact e

/-- At first all others are to do, -/
theorem todo_zero (c : Dev nD) : todo c 0 = Finset.univ.erase c := by
  ext d; rw [mem_todo, Finset.mem_erase]; exact ⟨fun h => ⟨h.2, Finset.mem_univ _⟩, fun h => ⟨Nat.zero_le _, h.1⟩⟩
/-- in the end none; -/
theorem todo_end (c : Dev nD) : todo c 16 = ∅ :=
  Finset.eq_empty_of_forall_notMem fun d h => absurd (mem_todo.mp h).1 (by have : d.val < 16 := d.isLt; omega)
/-- at first none is done, -/
theorem past_zero (c : Dev nD) : past c 0 = ∅ :=
  Finset.eq_empty_of_forall_notMem fun d h => absurd (mem_past.mp h).1 (by omega)
/-- in the end all others. -/
theorem past_end (c : Dev nD) : past c 16 = Finset.univ.erase c := by
  ext d; rw [mem_past, Finset.mem_erase]; exact ⟨fun h => ⟨h.2, Finset.mem_univ _⟩, fun h => ⟨d.isLt, h.1⟩⟩

/-- What is held for the devices to do: the next one's, and the rest. -/
theorem todo_take {c t : Dev nD} (h : t ≠ c) (Φ : Dev nD → sProp 𝕄) :
    bigSep (todo c t.val) Φ = iprop(Φ t ∗ bigSep (todo c (t.val + 1)) Φ) := by
  rw [todo_step h, bigSep_insert (todo_notMem c t)]; rfl
/-- What is held for the devices done: the last one's, and the others'. -/
theorem past_put {c t : Dev nD} (h : t ≠ c) (Φ : Dev nD → sProp 𝕄) :
    bigSep (past c (t.val + 1)) Φ = iprop(Φ t ∗ bigSep (past c t.val) Φ) := by
  rw [past_step h, bigSep_insert (past_notMem c t)]; rfl

/-! ## The guards, the offsets and the semaphores the kernel computes -/

/-- The number a device computes for itself, -/
def meWord (c : Dev nD) : BitVec 32 :=
  Scalar.addi (Scalar.muli (Scalar.addi (Scalar.muli (Scalar.remsi (Scalar.divsi (Dev.word c) 8#32) 2#32) 2#32)
    (Scalar.remsi (Scalar.divsi (Dev.word c) 4#32) 2#32)) 4#32) (Scalar.remsi (Scalar.divsi (Dev.word c) 1#32) 4#32)

/-- and its test that this differs from `w`, -/
def guardWord (me w : BitVec 32) : BitVec 1 := Scalar.cmpi .ne (Scalar.extui (Scalar.cmpi .ne me w)) 0#32

/-- which holds for every number but its own. -/
theorem guard_iff : ∀ t c : Fin 16, guardWord (meWord c) (BitVec.ofNat 32 t.val) = 1#1 ↔ t ≠ c := by decide +kernel

/-- Its own slot is where it stores its sums, and what it sends. -/
theorem off_slot : ∀ c : Dev nD, k0_off2 c = slotOff c := by decide +kernel
/-- The receive semaphore that its copies complete on bears its number. -/
theorem off_recv : ∀ c : Dev nD, k0_off3 c = ![c.val] := by decide +kernel

/-- A semaphore's number lies in its array. -/
theorem sem_inb (t : Fin 16) : ∀ a, (![t.val] : Fin 1 → ℕ) a + S1.size a ≤ S16.size a := by revert t; decide +kernel

/-- Element `t` of the send semaphores is semaphore `send t`, -/
theorem sendS_canon : ∀ t : Fin 16,
    ((cc0_scratch4.slice (Rect.unit (s := S16) ![t.val] S1.size (sem_inb t))).squeeze S_ squeezes_S1_S_).sem = sendS t := by decide +kernel
/-- and of the receive semaphores `recv t`. -/
theorem recvS_canon : ∀ t : Fin 16,
    ((cc0_scratch5.slice (Rect.unit (s := S16) ![t.val] S1.size (sem_inb t))).squeeze S_ squeezes_S1_S_).sem = recvS t := by decide +kernel

/-- Element `t` of the send semaphores, at an offset that is `t`. -/
theorem sendS_eq {o : Fin 1 → ℕ} (t : Fin 16) (ho : o = ![t.val]) (h : ∀ a, o a + S1.size a ≤ S16.size a) :
    ((cc0_scratch4.slice (Rect.unit (s := S16) o S1.size h)).squeeze S_ squeezes_S1_S_).sem = sendS t := by subst ho; exact sendS_canon t
/-- The same of the receive semaphores. -/
theorem recvS_eq {o : Fin 1 → ℕ} (t : Fin 16) (ho : o = ![t.val]) (h : ∀ a, o a + S1.size a ≤ S16.size a) :
    ((cc0_scratch5.slice (Rect.unit (s := S16) o S1.size h)).squeeze S_ squeezes_S1_S_).sem = recvS t := by subst ho; exact recvS_canon t

/-- The slot at an offset that is slot `s`'s. -/
theorem slotM_eq {o : Fin 3 → ℕ} (s : Fin 16) (ho : o = slotOff s) (h : ∀ a, o a + S1x2x1024.size a ≤ S16x2x1024.size a) :
    (cM.slice (Rect.unit (s := S16x2x1024) o S1x2x1024.size h) (fun _ => rfl)).squeeze S2x1024 squeezes_S1x2x1024_S2x1024 = slotM s := by
  subst ho; rfl

/-! ## What every device may use throughout -/

section
variable (K : Dev nD × CK → ℕ)

/-- Every semaphore's invariant, and that its round 0 has begun. -/
def records : sProp 𝕄 :=
  iprop((bigSep Finset.univ fun ck : Dev nD × CK => cellInv ER (Rd m) (K ck) (kcell ck.1 ck.2))
    ∗ bigSep Finset.univ fun ck : Dev nD × CK => reached ER (kcell ck.1 ck.2) 0)

/-- The records and the levels. -/
def env : sProp 𝕄 := iprop(records m K ∗ levAts L lv)

instance records_persistent : BI.Persistent (records (F := F) m K) := by unfold records; infer_instance
instance env_persistent : BI.Persistent (env (F := F) m K) := by unfold env; infer_instance

/-- Every semaphore's invariant is among the records, -/
theorem env_inv (c : Dev nD) (k : CK) : env m K ⊢ cellInv ER (Rd m) (K (c, k)) (kcell c k) :=
  (show env m K ⊢ records m K from by unfold env; iintro ⟨H, -⟩; iexact H).trans <|
  (show records m K ⊢ bigSep Finset.univ fun ck : Dev nD × CK => cellInv ER (Rd m) (K ck) (kcell ck.1 ck.2) from by
    unfold records; iintro ⟨H, -⟩; iexact H).trans (bigSep_elim (Finset.mem_univ (c, k)))
/-- and that it has reached its round. -/
theorem env_reached (c : Dev nD) (k : CK) : (env m K : sProp 𝕄) ⊢ reached ER (kcell c k) 0 :=
  (show env m K ⊢ records m K from by unfold env; iintro ⟨H, -⟩; iexact H).trans <|
  (show records m K ⊢ bigSep Finset.univ fun ck : Dev nD × CK => reached ER (kcell ck.1 ck.2) 0 from by
    unfold records; iintro ⟨-, H⟩; iexact H).trans (bigSep_elim (Finset.mem_univ (c, k)))

/-! ## The four phases -/

variable (c : Dev nD)

/-- Owing `O`, whatever has been waited for. -/
def owing (O : CellTallies nD τ sig Unit) : sProp 𝕄 := iprop(∃ W, owes (c : Thread nD τ) O W)

/-- Signalling: for each device to do, the right to signal it and the slot that the signal hands over. -/
def sigSt (n : ℕ) : sProp 𝕄 :=
  iprop(env m K ∗ owing c (owedSends c (Finset.univ.erase c) + owedSignals (todo c n))
    ∗ bigSep (todo c n) fun d => iprop(dutyTok ER (kcell d bar) 0 c ∗ ∃ f, slotPts c d fullShare f))

/-- Sending: for each device to do, the rights to complete the copy at both ends, the slot of that device's buffer to
    write and the share of the own slot to read; for each device done, the credit for the copy sent. -/
def sendSt (n : ℕ) : sProp 𝕄 :=
  iprop(env m K ∗ owing c (owedSends c (todo c n))
    ∗ (bigSep (todo c n) fun d => iprop(dutyTok ER (kcell d (recv c)) 0 c ∗ dutyTok ER (kcell c (send d)) 0 c
        ∗ (∃ f, slotPts d c fullShare f) ∗ slotDone m c c (sixteenth d)))
    ∗ bigSep (past c n) fun d => cred (tallyAt (kcell c (send d)) () N))

/-- Receiving: for each device to do, the credit for what it sends and the place in its round; for each device done, its
    sums. -/
def recvSt (n : ℕ) : sProp 𝕄 :=
  iprop(env m K ∗ owing c 0
    ∗ (bigSep (todo c n) fun s => iprop(cred (tallyAt (kcell c (recv s)) () N) ∗ atPos ER (kcell c (recv s)) 0 ∅ 0))
    ∗ bigSep (past c n) fun s => iprop(atPos ER (kcell c (recv s)) 1 ∅ 0 ∗ slotDone m c s fullShare))

/-- Waiting for the sends: likewise, each returning the share of the own slot it read. -/
def sentSt (n : ℕ) : sProp 𝕄 :=
  iprop(env m K ∗ owing c 0
    ∗ (bigSep (todo c n) fun t => iprop(cred (tallyAt (kcell c (send t)) () N) ∗ atPos ER (kcell c (send t)) 0 ∅ 0))
    ∗ bigSep (past c n) fun t => iprop(atPos ER (kcell c (send t)) 1 ∅ 0 ∗ slotDone m c c (sixteenth t)))

/-- The weakest precondition of a program on device `c`. -/
abbrev wpc {α : Type} (k : Prog (TpuEff nD τ sig (Elt F) Λ₀ .tc) α) (Q : α → sProp 𝕄) : sProp 𝕄 :=
  wp frame (wpE (defs₀ (F := F)) 𝒱₀ (c : Thread nD τ) none) Set.univ k Q

variable {p : Prop} [Decidable p] {t : ℕ}

/-- Where the kernel's test fails, the number is the device's own. -/
theorem skip_num {t : ℕ} (ht : t < 16) (hp : p ↔ (⟨t, ht⟩ : Fin 16) ≠ c) (h : ¬ p) : t = c.val :=
  congrArg Fin.val (not_not.mp fun h' => h (hp.mpr h'))

/-- The copies owed are the one to device `t` and those after it, -/
theorem owedSends_take {t : Dev nD} (h : t ≠ c) :
    owedSends c (todo c t.val) = owedSends c (todo c (t.val + 1)) + tallyAt (kcell t (recv c)) () N := by
  unfold owedSends; rw [todo_step h, Finset.sum_insert (todo_notMem c t), add_comm]
/-- and the signals likewise. -/
theorem owedSignals_take {t : Dev nD} (h : t ≠ c) :
    owedSignals (todo c t.val) = owedSignals (todo c (t.val + 1)) + tallyAt (kcell t bar) () 1 := by
  unfold owedSignals; rw [todo_step h, Finset.sum_insert (todo_notMem c t), add_comm]

/-- Who is due to pay a semaphore is in its schedule. -/
theorem mem_duties {c : Dev nD} {k : CK} {d : Dev nD} (h : d ∈ dutyK c k) : d ∈ (Rd (F := F) m).duties (kcell c k) 0 := by
  rw [duties_eq]; exact h
/-- A payment, as the schedule has it. -/
theorem pay_in (c : Dev nD) (k : CK) (d : Dev nD) : payK (F := F) m c k d ⊢ (Rd m).payload (kcell c k) 0 d :=
  Entails.of_eq (payload_eq m c k d).symm

/-- A signal to device `u`, with everything it needs. -/
theorem wp_signal_to {α : Type} {Q : α → sProp 𝕄} {u : Dev nD} (hne : u ≠ c)
    {k : PUnit → Prog (TpuEff nD τ sig (Elt F) Λ₀ .tc) α} {O : CellTallies nD τ sig Unit} {W : Waits sig Unit} :
    iprop(cellInv ER (Rd m) (K (u, bar)) (kcell u bar) ∗ owes (c : Thread nD τ) (O + tallyAt (kcell u bar) () 1) W
        ∗ dutyTok ER (kcell u bar) 0 c ∗ (∃ f, slotPts c u fullShare f) ∗ reached ER (kcell u bar) 0)
      ⊢ iprop((owes (c : Thread nD τ) O W -∗ wpc c (k ⟨⟩) Q) -∗ wpc c (.op (.semSignal (u : Thread nD τ) barS (1 : ℕ)) k) Q) := by
  rw [← show (Rd m).payload (kcell u bar) 0 c = iprop(∃ f, slotPts c u fullShare f) from payload_eq m u bar c]
  exact Rounds.wp_signal 𝒱₀ ER (Rd m) (c : Thread nD τ) none (sem := barS) (dst := (u : Thread nD τ)) (κ := K (u, bar)) (d := c) (r := 0)
    (mem_duties m (k := bar) (Finset.mem_erase.mpr ⟨hne.symm, Finset.mem_univ _⟩)) (amount_eq m u bar c) () O rfl

/-- The signal to device `t`. -/
theorem sig_step {α : Type} {Q : α → sProp 𝕄} {R : sProp 𝕄} {k : Prog (TpuEff nD τ sig (Elt F) Λ₀ .tc) α}
    (ht : t < 16) (hp : p ↔ (⟨t, ht⟩ : Fin 16) ≠ c) {dv : ℕ} (hdv : dv = t) {hlt : p → dv < nD}
    (hk : iprop(sigSt m K c (t + 1) ∗ R) ⊢ wpc c k Q) :
    iprop(sigSt m K c t ∗ R) ⊢ wpc c (if h : p then (do semSignalWord (⟨dv, hlt h⟩ : Dev nD) (SemArray.scalar (sig.barrier 0 rfl) : Sems sig S_).sem 1#32; k) else k) Q := by
  subst hdv
  by_cases h : p
  · rw [dif_pos h]
    simp only [semSignalWord, Prog.bind_op, Prog.bind_ret]
    obtain ⟨u, hu⟩ : ∃ u : Dev nD, u = ⟨dv, ht⟩ := ⟨_, rfl⟩
    have hne : u ≠ c := hu ▸ hp.mp h
    obtain rfl : dv = u.val := by rw [hu]
    show iprop(sigSt m K c u.val ∗ R) ⊢ wpc c (.op (.semSignal (u : Thread nD τ) barS (1 : ℕ)) fun _ => k) Q
    unfold sigSt owing
    rw [todo_take hne, owedSignals_take c hne, ← add_assoc]
    iintro ⟨⟨#He, ⟨%W, Ho⟩, ⟨⟨Htok, Hslot⟩, Hrest⟩⟩, HR⟩
    iapply (wp_signal_to m K c hne) $$ [Ho Htok Hslot]
    · isplitr; · iapply (env_inv m K u bar); iexact He
      isplitl [Ho]; · iexact Ho
      isplitl [Htok]; · iexact Htok
      isplitl [Hslot]; · iexact Hslot
      iapply (env_reached m K u bar); iexact He
    iintro Ho
    iapply hk
    unfold sigSt owing
    isplitr [HR]
    · isplitr; · iexact He
      isplitl [Ho]; · iexists W; iexact Ho
      iexact Hrest
    iexact HR
  · obtain rfl := skip_num c ht hp h
    rw [dif_neg h]
    refine BI.Entails.trans ?_ hk
    unfold sigSt
    rw [todo_skip c]
    exact BI.Entails.refl _

/-- The share of the own slot that a copy has read is what its leaving hands back, -/
theorem send_pay (u : Dev nD) :
    iprop((slotM c).view.loc (c : Thread nD τ) ↦[(slotM c).view.set]{sixteenth u} gathered m) ⊢ (Rd m).payload (kcell c (send u)) 0 c :=
  (Entails.of_eq (by rw [slotM_set]; rfl)).trans (pay_in m c (send u) c)
/-- and the slot written at the other end is what its arrival hands over. -/
theorem recv_pay (u : Dev nD) (f : (cc0_scratch2 : Ref sig .tc).ty.Contents (Elt F)) :
    iprop((slotM c).view.loc (u : Thread nD τ) ↦[(slotM c).view.set]{fullShare}
        (slotM c).view.write (Elt F) f ((slotM c).view.read (Elt F) (gathered m)) Finset.univ)
      ⊢ (Rd m).payload (kcell u (recv c)) 0 c :=
  (Entails.of_eq (by rw [slotM_set]; exact pointsTo_congr (slot_copy c f (gathered m)))).trans (pay_in m u (recv c) c)

/-- A copy of the own slot into the same slot of device `u`, with everything it needs. -/
theorem wp_send_slot {α : Type} {Q : α → sProp 𝕄} {u : Dev nD} (hne : u ≠ c)
    {hsc : (slotM c).view.ref.isScScratch = false} {hsrc hdst : (slotM c).view.WordExact}
    {hsem : DmaTarget.Typed (nD := nD) (τ := τ) .vmem (.dma (recvS c)) (.remote (Dev.tc u : Thread nD τ) (slotM c) (.dma (sendS u)) hsc)}
    {k : PUnit → Prog (TpuEff nD τ sig (Elt F) Λ₀ .tc) α} {O : CellTallies nD τ sig Unit} {W : Waits sig Unit}
    {f : (cc0_scratch2 : Ref sig .tc).ty.Contents (Elt F)} :
    iprop(cellInv ER (Rd m) (K (c, send u)) (kcell c (send u)) ∗ cellInv ER (Rd m) (K (u, recv c)) (kcell u (recv c))
        ∗ slotDone m c c (sixteenth u) ∗ slotPts u c fullShare f
        ∗ owes (c : Thread nD τ) (O + tallyAt (kcell u (recv c)) () N) W
        ∗ dutyTok ER (kcell c (send u)) 0 c ∗ reached ER (kcell c (send u)) 0
        ∗ dutyTok ER (kcell u (recv c)) 0 c ∗ reached ER (kcell u (recv c)) 0)
      ⊢ iprop(((cred (tallyAt (kcell c (send u)) () N) ∗ owes (c : Thread nD τ) O W) -∗ wpc c (k ⟨⟩) Q)
          -∗ wpc c (.op (.enqueueDma (slotM c) (.remote (Dev.tc u : Thread nD τ) (slotM c) (.dma (sendS u)) hsc) (.dma (recvS c)) hsrc hdst hsem) k) Q) := by
  simp only [slotPts]
  rw [← slotM_set]
  exact Rounds.wp_send_pointsTo 𝒱₀ ER (Rd m) (c : Thread nD τ) none (κ₁ := K (c, send u)) (κ₂ := K (u, recv c))
    (c' := (u : Thread nD τ)) (src := slotM c) (dst := slotM c) (sS := .dma (sendS u)) (sem := .dma (recvS c))
    (r₁ := 0) (r₂ := 0) (d₁ := c) (d₂ := c) (q := sixteenth u) (fs := gathered m) (fd := f)
    (mem_duties m (k := send u) (by rw [dutyK_send hne]; exact Finset.mem_singleton_self _))
    (mem_duties m (k := recv c) (by rw [dutyK_recv hne.symm]; exact Finset.mem_singleton_self _))
    () () N (slot_credit c) (amount_eq m c (send u) c) (amount_eq m u (recv c) c) O rfl (W := W)
    (send_pay m c u) (recv_pay m c u f)

/-- The copy to device `t`. -/
theorem send_step {α : Type} {Q : α → sProp 𝕄} {R : sProp 𝕄} {k : Prog (TpuEff nD τ sig (Elt F) Λ₀ .tc) α}
    (ht : t < 16) (hp : p ↔ (⟨t, ht⟩ : Fin 16) ≠ c) {dv : ℕ} (hdv : dv = t) {hlt : p → dv < nD}
    {o8 o9 : Fin 1 → ℕ} {o6 : Fin 3 → ℕ} (ho8 : o8 = ![t]) (ho9 : o9 = ![c.val]) (ho6 : o6 = slotOff c)
    {h8 : ∀ a, o8 a + S1.size a ≤ S16.size a} {h9 : p → ∀ a, o9 a + S1.size a ≤ S16.size a}
    {h6 : p → ∀ a, o6 a + S1x2x1024.size a ≤ S16x2x1024.size a}
    (hk : iprop(sendSt m K c (t + 1) ∗ R) ⊢ wpc c k Q) :
    iprop(sendSt m K c t ∗ R) ⊢ wpc c (if h : p then (do
      let v259 : DmaSems sig S_ := (cc0_scratch4.slice (Rect.unit (s := S16) o8 S1.size h8)).squeeze S_ squeezes_S1_S_
      let v261 : DmaSems sig S_ := (cc0_scratch5.slice (Rect.unit (s := S16) o9 S1.size (h9 h))).squeeze S_ squeezes_S1_S_
      let v263 : Memref sig .tc .vmem S2x1024 .f32 := (cM.slice (Rect.unit (s := S16x2x1024) o6 S1x2x1024.size (h6 h)) (fun _ => rfl)).squeeze S2x1024 squeezes_S1x2x1024_S2x1024
      let v265 : Memref sig .tc .vmem S2x1024 .f32 := (cM.slice (Rect.unit (s := S16x2x1024) o6 S1x2x1024.size (h6 h)) (fun _ => rfl)).squeeze S2x1024 squeezes_S1x2x1024_S2x1024
      Prog.lift (.enqueueDma v265 (.remote (Dev.tc (⟨dv, hlt h⟩ : Dev nD)) v263 (.dma v259.sem)) (.dma v261.sem) ((View.wordExact_bits rfl).reshape _ _) ((View.wordExact_bits rfl).reshape _ _) ⟨⟨rfl, Or.inl rfl⟩, trivial⟩)
      k) else k) Q := by
  subst hdv
  by_cases h : p
  · rw [dif_pos h]
    simp only [Prog.lift, Prog.bind_op, Prog.bind_ret]
    have h6 := h6 h
    have h9 := h9 h
    obtain ⟨u, hu⟩ : ∃ u : Dev nD, u = ⟨dv, ht⟩ := ⟨_, rfl⟩
    have hne : u ≠ c := hu ▸ hp.mp h
    obtain rfl : dv = u.val := by rw [hu]
    subst ho6 ho8 ho9
    have hS := sendS_canon u
    have hR := recvS_canon c
    revert hS hR
    generalize ((cc0_scratch4.slice (Rect.unit (s := S16) ![u.val] S1.size _)).squeeze S_ squeezes_S1_S_).sem = sS
    generalize ((cc0_scratch5.slice (Rect.unit (s := S16) ![c.val] S1.size _)).squeeze S_ squeezes_S1_S_).sem = sR
    rintro rfl rfl
    unfold sendSt owing
    rw [todo_take hne, owedSends_take c hne]
    iintro ⟨⟨#He, ⟨%W, Ho⟩, ⟨⟨Ht2, Ht1, ⟨%f, Hdst⟩, Hsrc⟩, Hrest⟩, Hpast⟩, HR⟩
    iapply (wp_send_slot m K c hne (f := f)) $$ [Hsrc Hdst Ho Ht1 Ht2]
    · isplitr; · iapply (env_inv m K c (send u)); iexact He
      isplitr; · iapply (env_inv m K u (recv c)); iexact He
      isplitl [Hsrc]; · iexact Hsrc
      isplitl [Hdst]; · iexact Hdst
      isplitl [Ho]; · iexact Ho
      isplitl [Ht1]; · iexact Ht1
      isplitr; · iapply (env_reached m K c (send u)); iexact He
      isplitl [Ht2]; · iexact Ht2
      iapply (env_reached m K u (recv c)); iexact He
    iintro ⟨Hc, Ho⟩
    iapply hk
    unfold sendSt owing
    rw [past_put hne]
    isplitr [HR]
    · isplitr; · iexact He
      isplitl [Ho]; · iexists W; iexact Ho
      isplitl [Hrest]; · iexact Hrest
      isplitl [Hc]; · iexact Hc
      iexact Hpast
    iexact HR
  · obtain rfl := skip_num c ht hp h
    rw [dif_neg h]
    refine BI.Entails.trans ?_ hk
    unfold sendSt
    rw [todo_skip c, past_skip c]
    exact BI.Entails.refl _

/-- The wait for a whole round of a semaphore that one device pays, nothing being owed. -/
theorem wp_wait_one {α : Type} {Q : α → sProp 𝕄} {kk : CK} {d : Dev nD} (hduty : dutyK c kk = {d}) {n : ℕ} (hn : amtK kk = n) {P : sProp 𝕄} (hP : payK m c kk d = P)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (csem kk) n K')
    {O : CellTallies nD τ sig Unit} {k : PUnit → Prog (TpuEff nD τ sig (Elt F) Λ₀ .tc) α}
    (hm : env m K ⊢ MayWait (c : Thread nD τ) (csem kk) () O) :
    iprop(env m K ∗ owing c O ∗ cred (tallyAt (kcell c kk) () n) ∗ atPos ER (kcell c kk) 0 ∅ 0)
      ⊢ iprop(((owing c O ∗ atPos ER (kcell c kk) 1 ∅ 0 ∗ P) -∗ wpc c (k ⟨⟩) Q) -∗ wpc c (.op w k) Q) := by
  subst hn hP
  unfold owing
  iintro ⟨#He, ⟨%W, Ho⟩, Hc, Ha⟩ Hk
  iapply (Rounds.wp_wait_rest_token 𝒱₀ ER (Rd m) (c : Thread nD τ) none (κ := K (c, kk)) hw (Set.mem_univ _) () (O := O) (W := W)
    (R := 0) (m := 0) (T := ∅) (by rw [Nat.zero_add]; exact ((expect_eq m c kk).trans (by rw [hduty, Finset.card_singleton, Nat.one_mul])).symm))
    $$ [Hc Ho Ha]
  · isplitr; · iapply (env_inv m K c kk); iexact He
    isplitl [Hc]; · iexact Hc
    isplitl [Ho]; · iexact Ho
    isplitr; · iapply hm; iexact He
    iexact Ha
  iintro ⟨Ho, Ha, -, Hpay⟩
  ihave Hp := (Entails.of_eq ((rest_eq m c kk).trans (by rw [hduty, bigSep_singleton]))) $$ Hpay
  iapply Hk
  isplitl [Ho]; · iexists _; iexact Ho
  isplitl [Ha]; · iexact Ha
  iexact Hp

/-- A device that owes nothing may wait for anything. -/
theorem mayWait_none (sm : SemLoc sig) : env m K ⊢ MayWait (c : Thread nD τ) sm () 0 := by
  rw [MayWait_zero]; iintro -; iempintro

/-- The wait for what device `t` sends. -/
theorem recv_step {α : Type} {Q : α → sProp 𝕄} {R : sProp 𝕄} {k : Prog (TpuEff nD τ sig (Elt F) Λ₀ .tc) α}
    (ht : t < 16) (hp : p ↔ (⟨t, ht⟩ : Fin 16) ≠ c)
    {o9 : Fin 1 → ℕ} {o6 : Fin 3 → ℕ} (ho9 : o9 = ![t]) (ho6 : o6 = slotOff ⟨t, ht⟩)
    {h9 : ∀ a, o9 a + S1.size a ≤ S16.size a} {h6 : ∀ a, o6 a + S1x2x1024.size a ≤ S16x2x1024.size a}
    (hk : iprop(recvSt m K c (t + 1) ∗ R) ⊢ wpc c k Q) :
    iprop(recvSt m K c t ∗ R) ⊢ wpc c (if h : p then (do
      let v259 : DmaSems sig S_ := (cc0_scratch5.slice (Rect.unit (s := S16) o9 S1.size h9)).squeeze S_ squeezes_S1_S_
      let v261 : Memref sig .tc .vmem S2x1024 .f32 := (cM.slice (Rect.unit (s := S16x2x1024) o6 S1x2x1024.size h6) (fun _ => rfl)).squeeze S2x1024 squeezes_S1x2x1024_S2x1024
      let v263 : Memref sig .tc .vmem S2x1024 .f32 := (cM.slice (Rect.unit (s := S16x2x1024) o6 S1x2x1024.size h6) (fun _ => rfl)).squeeze S2x1024 squeezes_S1x2x1024_S2x1024
      Prog.lift (.waitDma2 v259.sem v263 v261 ((View.wordExact_bits rfl).reshape _ _) ((View.wordExact_bits rfl).reshape _ _))
      k) else k) Q := by
  by_cases h : p
  · rw [dif_pos h]
    simp only [Prog.lift, Prog.bind_op, Prog.bind_ret]
    obtain ⟨u, hu⟩ : ∃ u : Dev nD, u = ⟨t, ht⟩ := ⟨_, rfl⟩
    have hne : u ≠ c := hu ▸ hp.mp h
    rw [← hu] at ho6
    obtain rfl : t = u.val := by rw [hu]
    unfold recvSt
    rw [todo_take hne]
    iintro ⟨⟨#He, Ho, ⟨⟨Hc, Ha⟩, Hrest⟩, Hpast⟩, HR⟩
    iapply (wp_wait_one m K c (kk := recv u) (d := u) (dutyK_recv hne) (n := N) rfl (P := slotDone m c u fullShare) rfl
      (by rw [recvS_eq u ho9 h9]; exact wpE_waitDma2_eq 𝒱₀ (c : Thread nD τ) none Set.univ) (mayWait_none m K c _)) $$ [Ho Hc Ha]
    · isplitr; · iexact He
      isplitl [Ho]; · iexact Ho
      isplitl [Hc]; · iexact Hc
      iexact Ha
    iintro ⟨Ho, Ha, Hp⟩
    iapply hk
    unfold recvSt
    rw [past_put hne]
    isplitr [HR]
    · isplitr; · iexact He
      isplitl [Ho]; · iexact Ho
      isplitl [Hrest]; · iexact Hrest
      isplitl [Ha Hp]
      · isplitl [Ha]; · iexact Ha
        iexact Hp
      iexact Hpast
    iexact HR
  · obtain rfl := skip_num c ht hp h
    rw [dif_neg h]
    refine BI.Entails.trans ?_ hk
    unfold recvSt
    rw [todo_skip c, past_skip c]
    exact BI.Entails.refl _

/-- The wait for the copy sent to device `t`. -/
theorem sent_step {α : Type} {Q : α → sProp 𝕄} {R : sProp 𝕄} {k : Prog (TpuEff nD τ sig (Elt F) Λ₀ .tc) α}
    (ht : t < 16) (hp : p ↔ (⟨t, ht⟩ : Fin 16) ≠ c)
    {o8 : Fin 1 → ℕ} {o6 : Fin 3 → ℕ} (ho8 : o8 = ![t])
    {h8 : ∀ a, o8 a + S1.size a ≤ S16.size a} {h6 : p → ∀ a, o6 a + S1x2x1024.size a ≤ S16x2x1024.size a}
    (hk : iprop(sentSt m K c (t + 1) ∗ R) ⊢ wpc c k Q) :
    iprop(sentSt m K c t ∗ R) ⊢ wpc c (if h : p then (do
      let v253 : DmaSems sig S_ := (cc0_scratch4.slice (Rect.unit (s := S16) o8 S1.size h8)).squeeze S_ squeezes_S1_S_
      let v255 : Memref sig .tc .vmem S2x1024 .f32 := (cM.slice (Rect.unit (s := S16x2x1024) o6 S1x2x1024.size (h6 h)) (fun _ => rfl)).squeeze S2x1024 squeezes_S1x2x1024_S2x1024
      let v257 : Memref sig .tc .vmem S2x1024 .f32 := (cM.slice (Rect.unit (s := S16x2x1024) o6 S1x2x1024.size (h6 h)) (fun _ => rfl)).squeeze S2x1024 squeezes_S1x2x1024_S2x1024
      Prog.lift (.waitDma2 v253.sem v257 v255 ((View.wordExact_bits rfl).reshape _ _) ((View.wordExact_bits rfl).reshape _ _))
      k) else k) Q := by
  by_cases h : p
  · rw [dif_pos h]
    simp only [Prog.lift, Prog.bind_op, Prog.bind_ret]
    obtain ⟨u, hu⟩ : ∃ u : Dev nD, u = ⟨t, ht⟩ := ⟨_, rfl⟩
    have hne : u ≠ c := hu ▸ hp.mp h
    obtain rfl : t = u.val := by rw [hu]
    unfold sentSt
    rw [todo_take hne]
    iintro ⟨⟨#He, Ho, ⟨⟨Hc, Ha⟩, Hrest⟩, Hpast⟩, HR⟩
    iapply (wp_wait_one m K c (kk := send u) (d := c) (dutyK_send hne) (n := N) rfl (P := slotDone m c c (sixteenth u)) rfl
      (by rw [sendS_eq u ho8 h8]; exact wpE_waitDma2_eq 𝒱₀ (c : Thread nD τ) none Set.univ) (mayWait_none m K c _)) $$ [Ho Hc Ha]
    · isplitr; · iexact He
      isplitl [Ho]; · iexact Ho
      isplitl [Hc]; · iexact Hc
      iexact Ha
    iintro ⟨Ho, Ha, Hp⟩
    iapply hk
    unfold sentSt
    rw [past_put hne]
    isplitr [HR]
    · isplitr; · iexact He
      isplitl [Ho]; · iexact Ho
      isplitl [Hrest]; · iexact Hrest
      isplitl [Ha Hp]
      · isplitl [Ha]; · iexact Ha
        iexact Hp
      iexact Hpast
    iexact HR
  · obtain rfl := skip_num c ht hp h
    rw [dif_neg h]
    refine BI.Entails.trans ?_ hk
    unfold sentSt
    rw [todo_skip c, past_skip c]
    exact BI.Entails.refl _

end

end Cert.LnGrad
-- ==== Proof.Parts.lean ====
/-
The kernel's parts, one lemma each: what device `c` holds before and after.

The parts that signal, send and wait only go through the other devices by the steps of `Steps`.
-/
module

public import proofs.«01_k».proof.Proof.Steps

@[expose] public section

noncomputable section

namespace Cert.LnGrad

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- A part of the kernel at the buffers and semaphores the launch gives it. -/
abbrev onBufs {β : Type _} (f : ∀ (arg0 : Memref sig .tc .hbm S1024x1024 .f32) (_ : arg0.IsWhole) (arg1 : Memref sig .tc .hbm S1024x1024 .f32)
    (_ : arg1.IsWhole) (arg2 : Memref sig .tc .hbm S1024 .f32) (_ : arg2.IsWhole) (arg3 : Memref sig .tc .vmem S2x1024 .f32) (_ : arg3.IsWhole)
    (arg4 : Memref sig .tc .vmem S256x1024 .f32) (_ : arg4.IsWhole) (arg5 : Memref sig .tc .vmem S256x1024 .f32) (_ : arg5.IsWhole)
    (arg6 : Memref sig .tc .vmem S16x2x1024 .f32) (_ : arg6.IsWhole) (_ : DmaSems sig S2) (_ : DmaSems sig S16) (_ : DmaSems sig S16), β) : β :=
  f (Memref.whole main_arg0) (Memref.isWhole_whole _) (Memref.whole main_arg1) (Memref.isWhole_whole _) (Memref.whole main_arg2) (Memref.isWhole_whole _)
    oM (Memref.isWhole_whole _) xM (Memref.isWhole_whole _) dyM (Memref.isWhole_whole _) cM (Memref.isWhole_whole _) cc0_scratch3 cc0_scratch4 cc0_scratch5

variable {R : sProp (MT nD τ sig Unit (Elt F) ℕ UU ℕ)}

/-- A program that only returns a value does so from what gives the postcondition there. -/
theorem wpc_pure {α : Type} {Q : α → sProp 𝕄} {P : sProp 𝕄} {v : α} (h : P ⊢ Q v) : P ⊢ wpc c (pure v) Q := by
  rw [Prog.pure_eq_ret]
  show P ⊢ wp frame (wpE (defs₀ (F := F)) 𝒱₀ (c : Thread nD τ) none) Set.univ (.ret v) Q
  rw [wp_ret]
  refine h.trans ?_
  iintro H
  imodintro
  iexact H

/-- Asking for the device's number returns it. -/
theorem wpc_device {α : Type} {Q : α → sProp 𝕄} {P : sProp 𝕄} {k : Dev nD → Prog (TpuEff nD τ sig (Elt F) Λ₀ .tc) α} (h : P ⊢ wpc c (k c) Q) :
    P ⊢ wpc c (Prog.lift .deviceId >>= k) Q := by
  simp only [Prog.lift, Prog.bind_op, Prog.bind_ret, wp_deviceId]
  exact h

/-! ## Signalling -/

/-- The first part signals devices 0 to 5 (but itself), -/
theorem part1_spec {Q : _ → sProp 𝕄} {R : sProp 𝕄}
    (hk : ∀ v10 c6, iprop(sigSt m K c 6 ∗ R) ⊢ Q ⟨c, v10, meWord c, SemArray.scalar (sig.barrier 0 rfl), c6⟩) :
    iprop(sigSt m K c 0 ∗ R) ⊢ wpc c (onBufs (k0_part1 (F := F))) Q := by
  rw [k0_part1_eq_skeleton]
  unfold onBufs k0_part1_skel
  refine wpc_device c ?_
  iterate 6
    apply sig_step m K c
    case hp => exact guard_iff ⟨_, by decide⟩ c
    case hdv => rfl
  exact wpc_pure c (hk _ _)

/-- and the second devices 6 to 15. -/
theorem part2_spec {Q : _ → sProp 𝕄} {R : sProp 𝕄} (c6) (hk : ∀ w, iprop(sigSt m K c 16 ∗ R) ⊢ Q w) :
    iprop(sigSt m K c 6 ∗ R) ⊢ wpc c (onBufs (k0_part2 (F := F)) c (meWord c) (SemArray.scalar (sig.barrier 0 rfl)) c6) Q := by
  rw [k0_part2_eq_skeleton]
  unfold onBufs k0_part2_skel
  iterate 10
    apply sig_step m K c
    case hp => exact guard_iff ⟨_, by decide⟩ c
    case hdv => rfl
  exact wpc_pure c (hk _)

/-! ## Sending -/

/-- The fifth part sends to devices 6 to 14. -/
theorem part5_spec {Q : _ → sProp 𝕄} {R : sProp 𝕄} (v124 c0) (hk : ∀ w, iprop(sendSt m K c 15 ∗ R) ⊢ Q w) :
    iprop(sendSt m K c 6 ∗ R) ⊢ wpc c (onBufs (k0_part5 (F := F)) c (meWord c) v124 c0) Q := by
  rw [k0_part5_eq_skeleton]
  unfold onBufs k0_part5_skel
  iterate 9
    apply send_step m K c
    case hp => exact guard_iff ⟨_, by decide⟩ c
    case hdv => rfl
    case ho8 => rfl
    case ho9 => exact off_recv c
    case ho6 => exact off_slot c
  exact wpc_pure c (hk _)

/-- The ninth part waits for the copies to devices 0 to 8 to have left. -/
theorem part9_spec {Q : _ → sProp 𝕄} {R : sProp 𝕄} (v205 c0) (hk : ∀ w, iprop(sentSt m K c 9 ∗ R) ⊢ Q w) :
    iprop(sentSt m K c 0 ∗ R) ⊢ wpc c (onBufs (k0_part9 (F := F)) c (meWord c) v205 c0) Q := by
  rw [k0_part9_eq_skeleton]
  unfold onBufs k0_part9_skel
  iterate 9
    apply sent_step m K c
    case hp => exact guard_iff ⟨_, by decide⟩ c
    case ho8 => rfl
  exact wpc_pure c (hk _)

/-! ## Receiving -/

/-- The seventh part waits for the slots of devices 5 to 10. -/
theorem part7_spec {Q : _ → sProp 𝕄} {R : sProp 𝕄}
    (hk : iprop(recvSt m K c 11 ∗ R) ⊢ Q (Scalar.extui (Scalar.cmpi .ne (meWord c) 11#32))) :
    iprop(recvSt m K c 5 ∗ R)
      ⊢ wpc c (onBufs (k0_part7 (F := F)) (meWord c) (Scalar.extui (Scalar.cmpi .ne (meWord c) 5#32))) Q := by
  rw [k0_part7_eq_skeleton]
  unfold onBufs k0_part7_skel
  iterate 6
    apply recv_step m K c
    case hp => exact guard_iff ⟨_, by decide⟩ c
    case ho9 => rfl
    case ho6 => rfl
  exact wpc_pure c hk

/-- The last copy is sent, and everything of it waits for the first five to come in. -/
theorem part6_spec {Q : _ → sProp 𝕄} {R R' : sProp 𝕄} (v150) (hmid : iprop(sendSt m K c 16 ∗ R) ⊢ iprop(recvSt m K c 0 ∗ R'))
    (hk : iprop(recvSt m K c 5 ∗ R') ⊢ Q (Scalar.extui (Scalar.cmpi .ne (meWord c) 5#32))) :
    iprop(sendSt m K c 15 ∗ R) ⊢ wpc c (onBufs (k0_part6 (F := F)) c (meWord c) v150) Q := by
  rw [k0_part6_eq_skeleton]
  unfold onBufs k0_part6_skel
  apply send_step m K c
  case hp => exact guard_iff ⟨_, by decide⟩ c
  case hdv => rfl
  case ho8 => rfl
  case ho9 => exact off_recv c
  case ho6 => exact off_slot c
  refine hmid.trans ?_
  iterate 5
    apply recv_step m K c
    case hp => exact guard_iff ⟨_, by decide⟩ c
    case ho9 => rfl
    case ho6 => rfl
  exact wpc_pure c hk

/-! ## Copying in -/

/-- What a copy in does: its source rows and destination go, and come back, the destination at those rows, with the wait. -/
theorem wp_copy_in {α : Type} {Q : α → sProp 𝕄} (j : Fin 2) {A : Memref sig .tc .hbm S1024x1024 .f32} {B : Memref sig .tc .vmem S256x1024 .f32}
    {sem : DmaSem sig} (hsem : sem = copyS j) (hN : B.view.dmaCredit = copyAmt j)
    {hsrc : (rowsOf A c).view.WordExact} {hdst : B.view.WordExact} {hs : DmaTarget.Typed (nD := nD) .hbm (.dma sem) (.here B : DmaTarget nD τ sig .tc .vmem S256x1024 .f32)}
    {fs : Buf (Elt F) ((rowsOf A c).view.loc (c : Thread nD τ))} {fd : Buf (Elt F) (B.view.loc (c : Thread nD τ))}
    (hpay : iprop((B.view.loc (c : Thread nD τ) ↦[B.view.set]{fullShare} B.view.write (Elt F) fd ((rowsOf A c).view.read (Elt F) fs) Finset.univ)
        ∗ ((rowsOf A c).view.loc (c : Thread nD τ) ↦[(rowsOf A c).view.set]{fullShare} fs)) ⊢ payK m c (copy j) c)
    {k : PUnit → Prog (TpuEff nD τ sig (Elt F) Λ₀ .tc) α} :
    iprop(cellInv ER (Rd m) (K (c, copy j)) (kcell c (copy j))
        ∗ ((rowsOf A c).view.loc (c : Thread nD τ) ↦[(rowsOf A c).view.set]{fullShare} fs) ∗ (B.view.loc (c : Thread nD τ) ↦[B.view.set]{fullShare} fd)
        ∗ dutyTok ER (kcell c (copy j)) 0 c ∗ reached ER (kcell c (copy j)) 0)
      ⊢ iprop((cred (tallyAt (kcell c (copy j)) () (copyAmt j)) -∗ wpc c (k ⟨⟩) Q)
          -∗ wpc c (.op (.enqueueDma (rowsOf A c) (.here B) (.dma sem) hsrc hdst hs) k) Q) := by
  subst hsem
  exact Rounds.wp_copy_pointsTo 𝒱₀ ER (Rd m) (c : Thread nD τ) none (κ := K (c, copy j)) (src := rowsOf A c) (dst := B)
    (sem := .dma (copyS j)) (r := 0) (d := c) (q := fullShare) (fs := fs) (fd := fd)
    (mem_duties m (k := copy j) (Finset.mem_singleton_self c)) () (copyAmt j) hN (amount_eq m c (copy j) c)
    (hpay.trans (pay_in m c (copy j) c))

end Cert.LnGrad
-- ==== Proof.Copies.lean ====
/-
The kernel's third part: a device copies in its rows of `x` and of `dy` and sums them.
-/
module

public import proofs.«01_k».proof.Proof.Parts

@[expose] public section

noncomputable section

namespace Cert.LnGrad

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- The first two arguments whole, at their contents at launch. -/
def argPts : sProp 𝕄 :=
  iprop(((c : Thread nD τ).loc main_arg0 ↦{fullShare} m ((c : Thread nD τ).loc main_arg0))
    ∗ (c : Thread nD τ).loc main_arg1 ↦{fullShare} m ((c : Thread nD τ).loc main_arg1))

/-- What is left of them while the rows are being copied. -/
def argRest : sProp 𝕄 :=
  iprop(((c : Thread nD τ).loc main_arg0 ↦[Finset.univ \ (rowsOf xArr c).view.set]{fullShare} m ((c : Thread nD τ).loc main_arg0))
    ∗ (c : Thread nD τ).loc main_arg1 ↦[Finset.univ \ (rowsOf dyArr c).view.set]{fullShare} m ((c : Thread nD τ).loc main_arg1))

/-- The two arguments are the rows to copy and what is left of them. -/
theorem argPts_split : (argPts m c : sProp 𝕄) ⊣⊢ iprop((srcPts m 0 c ∗ srcPts m 1 c) ∗ argRest m c) := by
  have h0 := pointsTo_split_subset (nD := nD) (τ := τ) (sig := sig) (Ix := Unit) (Val := Elt F) (Name := ℕ) (U := UU) (Lvl := ℕ)
    (ℓ := (c : Thread nD τ).loc main_arg0) (q := fullShare) (f := m ((c : Thread nD τ).loc main_arg0))
    (Finset.subset_univ (rowsOf xArr c).view.set)
  have h1 := pointsTo_split_subset (nD := nD) (τ := τ) (sig := sig) (Ix := Unit) (Val := Elt F) (Name := ℕ) (U := UU) (Lvl := ℕ)
    (ℓ := (c : Thread nD τ).loc main_arg1) (q := fullShare) (f := m ((c : Thread nD τ).loc main_arg1))
    (Finset.subset_univ (rowsOf dyArr c).view.set)
  have e0 : (srcPts m 0 c : sProp 𝕄) = _ := if_pos rfl
  have e1 : (srcPts m 1 c : sProp 𝕄) = _ := if_neg (by decide)
  rw [e0, e1]
  unfold argPts argRest
  constructor
  · iintro ⟨Hx, Hy⟩
    ihave Hx := h0.1 $$ Hx
    ihave Hy := h1.1 $$ Hy
    icases Hx with ⟨Hx, Hx'⟩
    icases Hy with ⟨Hy, Hy'⟩
    isplitl [Hx Hy]
    · isplitl [Hx]; · iexact Hx
      iexact Hy
    isplitl [Hx']; · iexact Hx'
    iexact Hy'
  · iintro ⟨⟨Hx, Hy⟩, Hx', Hy'⟩
    isplitl [Hx Hx']
    · iapply h0.2
      isplitl [Hx]; · iexact Hx
      iexact Hx'
    · iapply h1.2
      isplitl [Hy]; · iexact Hy
      iexact Hy'

/-- Element `j` of the copy semaphores. -/
theorem copyS_canon (j : Fin 2) (h : ∀ a, (![j.val] : Fin 1 → ℕ) a + S1.size a ≤ S2.size a) :
    ((cc0_scratch3.slice (Rect.unit (s := S2) ![j.val] S1.size h)).squeeze S_ squeezes_S1_S_).sem = copyS j := by
  revert j; decide +kernel

/-- A device may wait for its own copies whatever signals and copies it still owes. -/
theorem mayWait_copy (j : Fin 2) (S T : Finset (Dev nD)) :
    env m K ⊢ MayWait (c : Thread nD τ) (csem (copy j)) () (owedSends c S + owedSignals T) := by
  unfold env
  iintro ⟨-, H⟩
  iapply (mayWait_low c (csem (copy j)) (lv_eq c (copy j) ()) S T)
  iexact H

/-- The offset of a rank-two buffer's whole is zero on both axes. -/
theorem hz2 : (![0, 0] : Fin 2 → ℕ) = fun _ => 0 := by decide

/-- A wait for a copy, at its semaphore. -/
theorem wait_eq {sp sp' : Space} {sh : Shape} {e : EltTy} {src : Memref sig .tc sp sh e} {dst : Memref sig .tc sp' sh e} {h1 h2} {sem sem' : DmaSem sig} (h : sem = sem') :
    ∀ K' : PUnit → sProp 𝕄, wpE (defs₀ (F := F)) 𝒱₀ (c : Thread nD τ) none Set.univ (.waitDma2 sem src dst h1 h2) K'
      = waitSpec (c : Thread nD τ) Set.univ (.dma sem') dst.view.dmaCredit K' := by
  subst h; exact wpE_waitDma2_eq 𝒱₀ (c : Thread nD τ) none Set.univ

/-- A load of the whole of a buffer reads its contents. -/
theorem read_x (f : (cc0_scratch0 : Ref sig .tc).ty.Contents (Elt F)) :
    xM.view.readAt (Elt F) (Rect.unit (s := S256x1024) ![0, 0] S256x1024.size inb_S256x1024_S256x1024_0_0).toLoadRect f = f :=
  Memref.readAt_unit_zero (Elt F) cc0_scratch0 hz2 _ f
/-- The same for `dy`. -/
theorem read_dy (f : (cc0_scratch1 : Ref sig .tc).ty.Contents (Elt F)) :
    dyM.view.readAt (Elt F) (Rect.unit (s := S256x1024) ![0, 0] S256x1024.size inb_S256x1024_S256x1024_0_0).toLoadRect f = f :=
  Memref.readAt_unit_zero (Elt F) cc0_scratch1 hz2 _ f

/-- Before the copies: the arguments, the buffers to copy into, and the two copies' rights, -/
def copySt : sProp 𝕄 :=
  iprop(env m K ∗ owing c (owedSends c (Finset.univ.erase c) + owedSignals (todo c 16)) ∗ argPts m c
    ∗ (∃ f, (c : Thread nD τ).loc cc0_scratch0 ↦{fullShare} f) ∗ (∃ f, (c : Thread nD τ).loc cc0_scratch1 ↦{fullShare} f)
    ∗ (dutyTok ER (kcell c (copy 0)) 0 c ∗ atPos ER (kcell c (copy 0)) 0 ∅ 0)
    ∗ (dutyTok ER (kcell c (copy 1)) 0 c ∗ atPos ER (kcell c (copy 1)) 0 ∅ 0))

/-- and after them. -/
def copiedSt : sProp 𝕄 :=
  iprop(env m K ∗ owing c (owedSends c (Finset.univ.erase c) + owedSignals (todo c 16)) ∗ argPts m c
    ∗ dstPts m 0 c ∗ dstPts m 1 c
    ∗ atPos ER (kcell c (copy 0)) 1 ∅ 0 ∗ atPos ER (kcell c (copy 1)) 1 ∅ 0)

/-- The two copies in, their waits, and the partial sums of the rows copied. -/
theorem part3_spec {Q : _ → sProp 𝕄} {R : sProp 𝕄} (v10 w)
    (hk : iprop(copiedSt m K c ∗ R) ⊢ Q ⟨k0_pay1 (xRows m c) (dyRows m c), k0_pay2 (dyRows m c)⟩) :
    iprop(copySt m K c ∗ R) ⊢ wpc c (onBufs (k0_part3 (F := F)) c v10 w) Q := by
  rw [k0_part3_eq_skeleton]
  unfold onBufs k0_part3_skel
  simp only [Prog.lift, Prog.bind_op, Prog.bind_ret]
  have hs := (argPts_split m c)
  have e0 : (srcPts m 0 c : sProp 𝕄) = _ := if_pos rfl
  have e1 : (srcPts m 1 c : sProp 𝕄) = _ := if_neg (by decide)
  have d0 : (dstPts m 0 c : sProp 𝕄) = _ := if_pos rfl
  have d1 : (dstPts m 1 c : sProp 𝕄) = _ := if_neg (by decide)
  unfold copySt
  iintro ⟨⟨#He, Ho, Harg, ⟨%fx, Hx⟩, ⟨%fy, Hy⟩, ⟨Ht0, Ha0⟩, Ht1, Ha1⟩, HR⟩
  ihave Harg := hs.1 $$ Harg
  icases Harg with ⟨⟨Hs0, Hs1⟩, Hrest⟩
  iapply (wp_copy_in m K c (0 : Fin 2) (A := xArr) (B := xM) (copyS_canon 0 _) rfl (fd := fx) (fs := m ((c : Thread nD τ).loc main_arg0))
    (by
      show _ ⊢ iprop(dstPts m 0 c ∗ srcPts m 0 c)
      rw [d0, e0, View.write_whole_univ, View.set_whole]
      exact BI.Entails.refl _)) $$ [Hs0 Hx Ht0]
  · isplitr; · iapply (env_inv m K c (copy 0)); iexact He
    isplitl [Hs0]; · iapply (Entails.of_eq e0); iexact Hs0
    isplitl [Hx]; · rw [View.set_whole]; iexact Hx
    isplitl [Ht0]; · iexact Ht0
    iapply (env_reached m K c (copy 0)); iexact He
  iintro Hc0
  iapply (wp_copy_in m K c (1 : Fin 2) (A := dyArr) (B := dyM) (copyS_canon 1 _) rfl (fd := fy) (fs := m ((c : Thread nD τ).loc main_arg1))
    (by
      show _ ⊢ iprop(dstPts m 1 c ∗ srcPts m 1 c)
      rw [d1, e1, View.write_whole_univ, View.set_whole]
      exact BI.Entails.refl _)) $$ [Hs1 Hy Ht1]
  · isplitr; · iapply (env_inv m K c (copy 1)); iexact He
    isplitl [Hs1]; · iapply (Entails.of_eq e1); iexact Hs1
    isplitl [Hy]; · rw [View.set_whole]; iexact Hy
    isplitl [Ht1]; · iexact Ht1
    iapply (env_reached m K c (copy 1)); iexact He
  iintro Hc1
  iapply (wp_wait_one m K c (kk := copy 0) (d := c) rfl (n := copyAmt 0) rfl (P := iprop(dstPts m 0 c ∗ srcPts m 0 c)) rfl
    (wait_eq c (copyS_canon 0 _)) (mayWait_copy m K c 0 _ _)) $$ [Ho Hc0 Ha0]
  · isplitr; · iexact He
    isplitl [Ho]; · iexact Ho
    isplitl [Hc0]; · iexact Hc0
    iexact Ha0
  iintro ⟨Ho, Ha0, Hx, Hs0⟩
  iapply (wp_wait_one m K c (kk := copy 1) (d := c) rfl (n := copyAmt 1) rfl (P := iprop(dstPts m 1 c ∗ srcPts m 1 c)) rfl
    (wait_eq c (copyS_canon 1 _)) (mayWait_copy m K c 1 _ _)) $$ [Ho Hc1 Ha1]
  · isplitr; · iexact He
    isplitl [Ho]; · iexact Ho
    isplitl [Hc1]; · iexact Hc1
    iexact Ha1
  iintro ⟨Ho, Ha1, Hy, Hs1⟩
  ihave Hx := (Entails.of_eq d0) $$ Hx
  ihave Hy := (Entails.of_eq d1) $$ Hy
  iapply (wp_load 𝒱₀ (c : Thread nD τ) none Set.univ (m := xM) (Finset.subset_univ _)) $$ Hx
  iintro Hx
  rw [read_x]
  iapply (wp_load 𝒱₀ (c : Thread nD τ) none Set.univ (m := dyM) (Finset.subset_univ _)) $$ Hy
  iintro Hy
  rw [read_dy]
  iapply (wpc_pure c hk)
  unfold copiedSt
  isplitr [HR]
  · isplitr; · iexact He
    isplitl [Ho]; · iexact Ho
    isplitl [Hs0 Hs1 Hrest]
    · iapply hs.2
      isplitr [Hrest]
      · isplitl [Hs0]; · iexact Hs0
        iexact Hs1
      iexact Hrest
    isplitl [Hx]; · iapply (Entails.of_eq d0.symm); iexact Hx
    isplitl [Hy]; · iapply (Entails.of_eq d1.symm); iexact Hy
    isplitl [Ha0]; · iexact Ha0
    iexact Ha1
  iexact HR

end Cert.LnGrad
-- ==== Proof.Exchange.lean ====
/-
The two parts of the kernel where a device meets the others: part 4 stores its sums in its slot and waits for everyone's
signal, and part 8, having received every slot, sums them.
-/
module

public import proofs.«01_k».proof.Proof.Copies

@[expose] public section

noncomputable section

namespace Cert.LnGrad

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## The exchange buffer in slots, and a slot in sixteenths -/

/-- Two assertions that follow from each other are equal. -/
theorem eq_of_both {P Q : sProp 𝕄} (h : iprop(P) ⊢ iprop(Q)) (h' : iprop(Q) ⊢ iprop(P)) : P = Q := BI.Entails.antisymm h h'

/-- A family of four things each is four families. -/
theorem bigSep_four (S : Finset (Dev nD)) (A B C D : Dev nD → sProp 𝕄) :
    bigSep S (fun d => iprop(A d ∗ B d ∗ C d ∗ D d)) = iprop(bigSep S A ∗ bigSep S B ∗ bigSep S C ∗ bigSep S D) := by
  rw [bigSep_sep', bigSep_sep', bigSep_sep']

/-- The whole buffer is its slots. -/
theorem comm_slots (q : PosShare TreeShare) (f : (cc0_scratch2 : Ref sig .tc).ty.Contents (Elt F)) :
    ((c : Thread nD τ).loc cc0_scratch2 ↦{q} f : sProp 𝕄) = bigSep Finset.univ fun s : Dev nD => slotPts c s q f :=
  Ring.pointsTo_blocks (ℓ := (c : Thread nD τ).loc cc0_scratch2) slotSet slotSet_disjoint slotSet_cover f

/-- A slot is its sixteen shares, one of them named. -/
theorem slot_shares (s t : Fin 16) (f : (cc0_scratch2 : Ref sig .tc).ty.Contents (Elt F)) :
    (slotPts c s fullShare f : sProp 𝕄)
      = iprop(slotPts c s (sixteenth t) f ∗ bigSep (Finset.univ.erase t) fun u => slotPts c s (sixteenth u) f) :=
  (ShareLeaves.pointsTo_leaves (ℓ := (c : Thread nD τ).loc cc0_scratch2) (slotSet s) f 4 fullShare).trans
    (bigSep_univ_at (I := Fin 16) (fun u => slotPts c s (sixteenth u) f) t)

/-- The other slots in full and a sixteenth of the own one hold a sixteenth of the whole buffer, and more. -/
theorem comm_sixteenth (f : (cc0_scratch2 : Ref sig .tc).ty.Contents (Elt F)) :
    (iprop((bigSep (Finset.univ.erase c) fun s : Dev nD => slotPts c s fullShare f) ∗ slotPts c c (sixteenth c) f) : sProp 𝕄)
      = iprop(((c : Thread nD τ).loc cc0_scratch2 ↦{sixteenth c} f)
        ∗ bigSep (Finset.univ.erase c) fun s : Dev nD => bigSep (Finset.univ.erase c) fun u : Dev nD => slotPts c s (sixteenth u) f) := by
  rw [comm_slots c, bigSep_univ_at (fun s : Dev nD => slotPts c s (sixteenth c) f) c,
    bigSep_congr (s := Finset.univ.erase c) (fun s _ => slot_shares c s c f), bigSep_sep']
  refine eq_of_both ?_ ?_
  · iintro ⟨⟨H1, H2⟩, H3⟩
    isplitr [H2]
    · isplitl [H3]; · iexact H3
      iexact H1
    iexact H2
  · iintro ⟨⟨H3, H1⟩, H2⟩
    isplitr [H3]
    · isplitl [H1]; · iexact H1
      iexact H2
    iexact H3

/-! ## Part 4 -/

/-- What follows from every instance follows from there being one. -/
theorem exists_sep_elim {β : Type} {Φ : β → sProp 𝕄} {R P : sProp 𝕄} (h : ∀ f, iprop(Φ f ∗ R) ⊢ P) : iprop((∃ f, Φ f) ∗ R) ⊢ P := by
  iintro ⟨⟨%f, Hs⟩, HR⟩
  iapply (h f)
  isplitl [Hs]; · iexact Hs
  iexact HR

/-- A load of slot `s`. -/
theorem load_slot {α : Type} {Q : α → sProp 𝕄} {R : sProp 𝕄} (s : Fin 16) {o : Fin 3 → ℕ} (ho : o = slotOff s)
    {h : ∀ a, o a + S1x2x1024.size a ≤ S16x2x1024.size a} {hl}
    {k : Vec F S1x2x1024 .f32 → Prog (TpuEff nD τ sig (Elt F) Λ₀ .tc) α} {f : (cc0_scratch2 : Ref sig .tc).ty.Contents (Elt F)}
    (hk : ∀ v, iprop(slotPts c s fullShare f ∗ R) ⊢ wpc c (k v) Q) :
    iprop(slotPts c s fullShare f ∗ R)
      ⊢ wpc c (Prog.lift (.load cM (Rect.unit (s := S16x2x1024) o S1x2x1024.size h).toLoadRect hl) >>= k) Q := by
  subst ho
  simp only [Prog.lift, Prog.bind_op, Prog.bind_ret]
  iintro ⟨Hs, HR⟩
  unfold slotPts
  iapply (wp_load_rect 𝒱₀ (c : Thread nD τ) none Set.univ (m := cM) (r := slotRect s) (slotAccess_set s).le) $$ Hs
  iintro Hs
  iapply (hk _)
  unfold slotPts
  isplitl [Hs]; · iexact Hs
  iexact HR

/-- A store of device `s`'s sums into slot `s`. -/
theorem store_slot {α : Type} {Q : α → sProp 𝕄} {R : sProp 𝕄} (s : Fin 16) {o : Fin 3 → ℕ} (ho : o = slotOff s)
    {h : ∀ a, o a + S1x2x1024.size a ≤ S16x2x1024.size a} {hs hx} {w : Vec F S1x2x1024 .f32} (hw : w = partSums m s)
    {k : PUnit → Prog (TpuEff nD τ sig (Elt F) Λ₀ .tc) α} {f : (cc0_scratch2 : Ref sig .tc).ty.Contents (Elt F)}
    (hk : iprop(slotDone m c s fullShare ∗ R) ⊢ wpc c (k ⟨⟩) Q) :
    iprop(slotPts c s fullShare f ∗ R)
      ⊢ wpc c (Prog.lift (.store cM (Rect.unit (s := S16x2x1024) o S1x2x1024.size h) w Finset.univ hs hx) >>= k) Q := by
  subst ho hw
  have hc : (slotPts (F := F) c s fullShare ((cM.access (slotRect s)).write (Elt F) f (partSums m s) Finset.univ) : sProp 𝕄)
      = slotDone m c s fullShare := pointsTo_congr (slot_store s f (gathered m) _ (gathered_slot m s))
  simp only [Prog.lift, Prog.bind_op, Prog.bind_ret]
  iintro ⟨Hs, HR⟩
  unfold slotPts
  iapply (wp_store 𝒱₀ (c : Thread nD τ) none Set.univ (m := cM) (r := slotRect s) (w := partSums m s) (Mk := Finset.univ)
    (by rw [View.setOn_univ]; exact (slotAccess_set s).le)) $$ Hs
  iintro Hs
  iapply hk
  isplitl [Hs]; · iapply (Entails.of_eq hc); unfold slotPts; iexact Hs
  iexact HR

/-- Before the barrier: the credit for the others' signals, and the rights to send to them. -/
def meetSt : sProp 𝕄 :=
  iprop(env m K ∗ owing c (owedSends c (todo c 0)) ∗ cred (tallyAt (kcell c bar) () 15) ∗ atPos ER (kcell c bar) 0 ∅ 0
    ∗ bigSep (todo c 0) fun d => iprop(dutyTok ER (kcell d (recv c)) 0 c ∗ dutyTok ER (kcell c (send d)) 0 c))

/-- A device may wait at its barrier while it owes copies only. -/
theorem mayWait_meet (S : Finset (Dev nD)) : env m K ⊢ MayWait (c : Thread nD τ) (csem bar) () (owedSends c S) := by
  unfold env
  iintro ⟨-, H⟩
  iapply (mayWait_bar c S)
  iexact H

/-- What the barrier's wait returns. -/
theorem rest_bar :
    bigSep ((Rd (F := F) m).duties ((c : Thread nD τ), SemLoc.reg barS) 0 \ ∅) (fun d => (Rd (F := F) m).payload ((c : Thread nD τ), SemLoc.reg barS) 0 d)
      = bigSep (Finset.univ.erase c) fun d => iprop(∃ f, slotPts d c fullShare f) := rest_eq m c bar

/-- A barrier expects fifteen signals. -/
theorem expect_bar : (Rd (F := F) m).expect (kcell c bar) 0 = 15 := by
  rw [expect_eq m c bar]
  show (Finset.univ.erase c).card * 1 = 15
  rw [Finset.card_erase_of_mem (Finset.mem_univ c)]
  rfl

/-- The wait for the others' signals hands over this device's slot of their buffers. -/
theorem wp_wait_bar {α : Type} {Q : α → sProp 𝕄} {O : CellTallies nD τ sig Unit} {k : PUnit → Prog (TpuEff nD τ sig (Elt F) Λ₀ .tc) α}
    (hm : env m K ⊢ MayWait (c : Thread nD τ) (csem bar) () O) :
    iprop(env m K ∗ owing c O ∗ cred (tallyAt (kcell c bar) () 15) ∗ atPos ER (kcell c bar) 0 ∅ 0)
      ⊢ iprop(((owing c O ∗ atPos ER (kcell c bar) 1 ∅ 0 ∗ bigSep (Finset.univ.erase c) fun d => iprop(∃ f, slotPts d c fullShare f)) -∗ wpc c (k ⟨⟩) Q)
        -∗ wpc c (.op (.semWait barS ((15 : ℕ) : ℤ)) k) Q) := by
  unfold owing
  iintro ⟨#He, ⟨%W, Ho⟩, Hc, Ha⟩ Hk
  iapply (Rounds.wp_wait_rest_token 𝒱₀ ER (Rd m) (c : Thread nD τ) none (κ := K (c, bar)) (wpE_semWait_eq 𝒱₀ (c : Thread nD τ) none Set.univ)
    (Set.mem_univ _) () (O := O) (W := W) (R := 0) (m := 0) (T := ∅) (by rw [Nat.zero_add]; exact (expect_bar m c).symm)) $$ [Hc Ho Ha]
  · isplitr; · iapply (env_inv m K c bar); iexact He
    isplitl [Hc]; · iexact Hc
    isplitl [Ho]; · iexact Ho
    isplitr; · iapply hm; iexact He
    iexact Ha
  iintro ⟨Ho, Ha, -, Hpay⟩
  ihave Hp := (Entails.of_eq (rest_bar m c)) $$ Hpay
  iapply Hk
  isplitl [Ho]; · iexists _; iexact Ho
  isplitl [Ha]; · iexact Ha
  iexact Hp

/-- The barrier: the own slot, stored, is cut into sixteenths, one kept and one for each copy to be sent. -/
theorem meet_step {α : Type} {Q : α → sProp 𝕄} {R : sProp 𝕄} {k : PUnit → Prog (TpuEff nD τ sig (Elt F) Λ₀ .tc) α}
    (hk : iprop(sendSt m K c 0 ∗ (atPos ER (kcell c bar) 1 ∅ 0 ∗ slotDone m c c (sixteenth c)) ∗ R) ⊢ wpc c (k ⟨⟩) Q) :
    iprop(slotDone m c c fullShare ∗ meetSt m K c ∗ R)
      ⊢ wpc c (semWaitWord (SemArray.scalar (sig.barrier 0 rfl) : Sems sig S_).sem 15#32 >>= k) Q := by
  simp only [semWaitWord, Prog.bind_op, Prog.bind_ret]
  show _ ⊢ wpc c (.op (.semWait barS ((15 : ℕ) : ℤ)) fun x => k x) Q
  unfold meetSt
  iintro ⟨Hs, ⟨#He, Ho, Hcr, Ha, Htok⟩, HR⟩
  ihave Hs := (Entails.of_eq (slot_shares c c c (gathered m))) $$ Hs
  icases Hs with ⟨Hc, Hq⟩
  iapply (wp_wait_bar m K c (mayWait_meet m K c _)) $$ [Ho Hcr Ha]
  · isplitr; · iexact He
    isplitl [Ho]; · iexact Ho
    isplitl [Hcr]; · iexact Hcr
    iexact Ha
  iintro ⟨Ho, Ha, Hslots⟩
  iapply hk
  isplitr [Hc Ha HR]
  · unfold sendSt
    rw [todo_zero, past_zero, bigSep_empty]
    isplitr; · iexact He
    isplitl [Ho]; · iexact Ho
    isplitl
    · iapply (Entails.of_eq (bigSep_four _ _ _ _ _).symm)
      ihave Htok := (Entails.of_eq (bigSep_sep' _ _ _)) $$ Htok
      icases Htok with ⟨Ht1, Ht2⟩
      isplitl [Ht1]; · iexact Ht1
      isplitl [Ht2]; · iexact Ht2
      isplitl [Hslots]; · iexact Hslots
      iexact Hq
    iempintro
  isplitl [Hc Ha]
  · isplitl [Ha]; · iexact Ha
    iexact Hc
  iexact HR

/-- Part 4, as far as the sends: the sums are stored, the barrier is passed, and six copies are sent. -/
theorem part4_spec {Q : _ → sProp 𝕄} {R : sProp 𝕄}
    (hk : ∀ w, iprop(sendSt m K c 6 ∗ (atPos ER (kcell c bar) 1 ∅ 0 ∗ slotDone m c c (sixteenth c)) ∗ R) ⊢ Q w) :
    iprop((∃ f, slotPts c c fullShare f) ∗ meetSt m K c ∗ R)
      ⊢ wpc c (onBufs (k0_part4 (F := F)) c (meWord c) (SemArray.scalar (sig.barrier 0 rfl))
          (k0_pay1 (xRows m c) (dyRows m c)) (k0_pay2 (dyRows m c))) Q := by
  rw [k0_part4_eq_skeleton]
  unfold onBufs k0_part4_skel
  refine exists_sep_elim fun f => ?_
  apply load_slot c c
  case ho => exact off_slot c
  intro v
  apply store_slot m c c
  case ho => exact off_slot c
  case hw => rfl
  apply meet_step m K c
  iterate 6
    apply send_step m K c
    case hp => exact guard_iff ⟨_, by decide⟩ c
    case hdv => rfl
    case ho8 => rfl
    case ho9 => exact off_recv c
    case ho6 => exact off_slot c
  exact wpc_pure c (hk _)

/-! ## Part 8 -/

/-- The offset of a rank-three buffer's whole is zero on every axis. -/
theorem hz3 : (![0, 0, 0] : Fin 3 → ℕ) = fun _ => 0 := by decide

/-- A load of the whole exchange buffer reads its contents. -/
theorem read_comm (f : (cc0_scratch2 : Ref sig .tc).ty.Contents (Elt F)) :
    cM.view.readAt (Elt F) (Rect.unit (s := S16x2x1024) ![0, 0, 0] S16x2x1024.size inb_S16x2x1024_S16x2x1024_0_0_0).toLoadRect f = f :=
  Memref.readAt_unit_zero (Elt F) cc0_scratch2 hz3 _ f

/-- A store over the whole result leaves what was stored. -/
theorem write_out (f w : (cc0_stg0_0 : Ref sig .tc).ty.Contents (Elt F)) :
    (oM.access (Rect.unit (s := S2x1024) ![0, 0] S2x1024.size inb_S2x1024_S2x1024_0_0)).write (Elt F) f w Finset.univ = w :=
  Memref.write_access_unit_zero_univ (Elt F) cc0_stg0_0 hz2 _ f w

/-- All received: every other device's slot is held. -/
theorem recvSt_end : (recvSt m K c 16 : sProp 𝕄) = iprop(env m K ∗ owing c 0 ∗ (bigSep (Finset.univ.erase c) fun s => atPos ER (kcell c (recv s)) 1 ∅ 0)
    ∗ bigSep (Finset.univ.erase c) fun s : Dev nD => slotDone m c s fullShare) := by
  unfold recvSt
  rw [todo_end, past_end, bigSep_empty, bigSep_sep']
  refine eq_of_both ?_ ?_
  · iintro ⟨He, Ho, -, H⟩
    isplitl [He]; · iexact He
    isplitl [Ho]; · iexact Ho
    iexact H
  · iintro ⟨He, Ho, H⟩
    isplitl [He]; · iexact He
    isplitl [Ho]; · iexact Ho
    isplitr; · iempintro
    iexact H

/-- Every slot received, with a share of the own one: the whole buffer can be read. -/
theorem load_comm {α : Type} {Q : α → sProp 𝕄} {R : sProp 𝕄} {hl}
    {k : Vec F S16x2x1024 .f32 → Prog (TpuEff nD τ sig (Elt F) Λ₀ .tc) α}
    (hk : iprop(recvSt m K c 16 ∗ slotDone m c c (sixteenth c) ∗ R) ⊢ wpc c (k (gathered m)) Q) :
    iprop(recvSt m K c 16 ∗ slotDone m c c (sixteenth c) ∗ R)
      ⊢ wpc c (Prog.lift (.load cM (Rect.unit (s := S16x2x1024) ![0, 0, 0] S16x2x1024.size inb_S16x2x1024_S16x2x1024_0_0_0).toLoadRect hl) >>= k) Q := by
  have hq := comm_sixteenth c (gathered m)
  simp only [Prog.lift, Prog.bind_op, Prog.bind_ret]
  have hr := recvSt_end m K c
  iintro ⟨Hr, Hc, HR⟩
  ihave Hr := (Entails.of_eq hr) $$ Hr
  icases Hr with ⟨He, Ho, Ha, Hs⟩
  ihave Hc := (Entails.of_eq hq) $$ [Hs Hc]
  · isplitl [Hs]; · iexact Hs
    iexact Hc
  icases Hc with ⟨Hc, Hrest⟩
  iapply (wp_load 𝒱₀ (c : Thread nD τ) none Set.univ (m := cM) (Finset.subset_univ _)) $$ Hc
  iintro Hc
  rw [read_comm]
  iapply hk
  ihave Hs := (Entails.of_eq hq.symm) $$ [Hc Hrest]
  · isplitl [Hc]; · iexact Hc
    iexact Hrest
  icases Hs with ⟨Hs, Hc⟩
  isplitr [Hc HR]
  · iapply (Entails.of_eq hr.symm)
    isplitl [He]; · iexact He
    isplitl [Ho]; · iexact Ho
    isplitl [Ha]; · iexact Ha
    iexact Hs
  isplitl [Hc]; · iexact Hc
  iexact HR

/-- A load of the result's buffer. -/
theorem load_out {α : Type} {Q : α → sProp 𝕄} {R : sProp 𝕄} {hl} {f : (cc0_stg0_0 : Ref sig .tc).ty.Contents (Elt F)}
    {k : Vec F S2x1024 .f32 → Prog (TpuEff nD τ sig (Elt F) Λ₀ .tc) α}
    (hk : ∀ v, iprop(((c : Thread nD τ).loc cc0_stg0_0 ↦{fullShare} f) ∗ R) ⊢ wpc c (k v) Q) :
    iprop(((c : Thread nD τ).loc cc0_stg0_0 ↦{fullShare} f) ∗ R)
      ⊢ wpc c (Prog.lift (.load oM (Rect.unit (s := S2x1024) ![0, 0] S2x1024.size inb_S2x1024_S2x1024_0_0).toLoadRect hl) >>= k) Q := by
  simp only [Prog.lift, Prog.bind_op, Prog.bind_ret]
  iintro ⟨Hs, HR⟩
  iapply (wp_load 𝒱₀ (c : Thread nD τ) none Set.univ (m := oM) (Finset.subset_univ _)) $$ Hs
  iintro Hs
  iapply (hk _)
  isplitl [Hs]; · iexact Hs
  iexact HR

/-- A store over the whole of it. -/
theorem store_out {α : Type} {Q : α → sProp 𝕄} {R : sProp 𝕄} {hs hx} {f w : (cc0_stg0_0 : Ref sig .tc).ty.Contents (Elt F)}
    {k : PUnit → Prog (TpuEff nD τ sig (Elt F) Λ₀ .tc) α}
    (hk : iprop(((c : Thread nD τ).loc cc0_stg0_0 ↦{fullShare} w) ∗ R) ⊢ wpc c (k ⟨⟩) Q) :
    iprop(((c : Thread nD τ).loc cc0_stg0_0 ↦{fullShare} f) ∗ R)
      ⊢ wpc c (Prog.lift (.store oM (Rect.unit (s := S2x1024) ![0, 0] S2x1024.size inb_S2x1024_S2x1024_0_0) w Finset.univ hs hx) >>= k) Q := by
  simp only [Prog.lift, Prog.bind_op, Prog.bind_ret]
  iintro ⟨Hs, HR⟩
  iapply (wp_store 𝒱₀ (c : Thread nD τ) none Set.univ (m := oM) (r := Rect.unit (s := S2x1024) ![0, 0] S2x1024.size inb_S2x1024_S2x1024_0_0) (w := w) (Mk := Finset.univ) (Finset.subset_univ _)) $$ Hs
  iintro Hs
  rw [write_out]
  iapply hk
  isplitl [Hs]; · iexact Hs
  iexact HR

/-- Part 8: the last five slots come in, and the sum of all is stored as the result. -/
theorem part8_spec {Q : _ → sProp 𝕄} {R : sProp 𝕄}
    (hk : ∀ w, iprop(((c : Thread nD τ).loc cc0_stg0_0 ↦{fullShare} outAt m) ∗ recvSt m K c 16 ∗ slotDone m c c (sixteenth c) ∗ R) ⊢ Q w) :
    iprop(recvSt m K c 11 ∗ slotDone m c c (sixteenth c) ∗ (∃ f, (c : Thread nD τ).loc cc0_stg0_0 ↦{fullShare} f) ∗ R)
      ⊢ wpc c (onBufs (k0_part8 (F := F)) (meWord c) (Scalar.extui (Scalar.cmpi .ne (meWord c) 11#32))) Q := by
  rw [k0_part8_eq_skeleton]
  unfold onBufs k0_part8_skel
  iterate 5
    apply recv_step m K c
    case hp => exact guard_iff ⟨_, by decide⟩ c
    case ho9 => rfl
    case ho6 => rfl
  apply load_comm m K c
  iintro ⟨Hr, Hc, ⟨%f, Ho⟩, HR⟩
  iapply (load_out c (f := f) fun v => store_out c (wpc_pure c (hk _)))
  isplitl [Ho]; · iexact Ho
  isplitl [Hr]; · iexact Hr
  isplitl [Hc]; · iexact Hc
  iexact HR

end Cert.LnGrad
-- ==== Proof.Body.lean ====
/-
The whole kernel on one device: its nine parts and the last waits, from what the device has at launch to what it has at
the end.
-/
module

public import proofs.«01_k».proof.Proof.Exchange

@[expose] public section

noncomputable section

namespace Cert.LnGrad

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## What is kept for later -/

/-- For the copies in: the arguments, the buffers, the rights and the places. -/
def copyRes : sProp 𝕄 :=
  iprop(argPts m c
    ∗ (∃ f, (c : Thread nD τ).loc cc0_scratch0 ↦{fullShare} f) ∗ (∃ f, (c : Thread nD τ).loc cc0_scratch1 ↦{fullShare} f)
    ∗ (dutyTok ER (kcell c (copy 0)) 0 c ∗ atPos ER (kcell c (copy 0)) 0 ∅ 0)
    ∗ (dutyTok ER (kcell c (copy 1)) 0 c ∗ atPos ER (kcell c (copy 1)) 0 ∅ 0))

/-- For the barrier and the sends. -/
def meetRes : sProp 𝕄 :=
  iprop((∃ f, slotPts c c fullShare f) ∗ cred (tallyAt (kcell c bar) () 15) ∗ atPos ER (kcell c bar) 0 ∅ 0
    ∗ bigSep (Finset.univ.erase c) fun d => iprop(dutyTok ER (kcell d (recv c)) 0 c ∗ dutyTok ER (kcell c (send d)) 0 c))

/-- For the receives and for the waits for the sends. -/
def laterRes : sProp 𝕄 :=
  iprop((bigSep (Finset.univ.erase c) fun s => iprop(cred (tallyAt (kcell c (recv s)) () N) ∗ atPos ER (kcell c (recv s)) 0 ∅ 0))
    ∗ (bigSep (Finset.univ.erase c) fun t => atPos ER (kcell c (send t)) 0 ∅ 0)
    ∗ ∃ f, (c : Thread nD τ).loc cc0_stg0_0 ↦{fullShare} f)

/-- What the copies in leave. -/
def copiedRes : sProp 𝕄 :=
  iprop(argPts m c ∗ dstPts m 0 c ∗ dstPts m 1 c ∗ atPos ER (kcell c (copy 0)) 1 ∅ 0 ∗ atPos ER (kcell c (copy 1)) 1 ∅ 0)

/-- What a device has at launch, -/
def startSt : sProp 𝕄 :=
  iprop(env m K ∗ owing c (O₀ c)
    ∗ (bigSep (Finset.univ.erase c) fun d => dutyTok ER (kcell d bar) 0 c)
    ∗ (∃ f, (c : Thread nD τ).loc cc0_scratch2 ↦{fullShare} f)
    ∗ copyRes m c
    ∗ (cred (tallyAt (kcell c bar) () 15) ∗ atPos ER (kcell c bar) 0 ∅ 0
      ∗ bigSep (Finset.univ.erase c) fun d => iprop(dutyTok ER (kcell d (recv c)) 0 c ∗ dutyTok ER (kcell c (send d)) 0 c))
    ∗ laterRes c)

/-- and at the end. -/
def endSt : sProp 𝕄 :=
  iprop(env m K ∗ owing c 0 ∗ copiedRes m c
    ∗ ((c : Thread nD τ).loc cc0_stg0_0 ↦{fullShare} outAt m)
    ∗ ((c : Thread nD τ).loc cc0_scratch2 ↦{fullShare} gathered m)
    ∗ atPos ER (kcell c bar) 1 ∅ 0
    ∗ (bigSep (Finset.univ.erase c) fun s => atPos ER (kcell c (recv s)) 1 ∅ 0)
    ∗ bigSep (Finset.univ.erase c) fun t => atPos ER (kcell c (send t)) 1 ∅ 0)

/-! ## From each phase to the next -/

/-- At launch the device may signal. -/
theorem start_signal : startSt m K c ⊢ iprop(sigSt m K c 0 ∗ copyRes m c ∗ meetRes c ∗ laterRes c) := by
  unfold startSt sigSt meetRes O₀
  rw [todo_zero]
  iintro ⟨He, Ho, Ht, ⟨%f, Hs⟩, Hcopy, Hm, Hl⟩
  ihave Hs := (Entails.of_eq ((comm_slots c fullShare f).trans (bigSep_univ_at (fun s : Dev nD => slotPts c s fullShare f) c))) $$ Hs
  icases Hs with ⟨Hc, Hs⟩
  isplitl [He Ho Ht Hs]
  · isplitl [He]; · iexact He
    isplitl [Ho]; · iexact Ho
    iapply (Entails.of_eq (bigSep_sep' _ _ _).symm)
    isplitl [Ht]; · iexact Ht
    have hs : (bigSep (Finset.univ.erase c) fun s : Dev nD => (slotPts c s fullShare f : sProp 𝕄))
        ⊢ bigSep (Finset.univ.erase c) fun s : Dev nD => iprop(∃ f, slotPts c s fullShare f) :=
      bigSep_mono fun s _ => by
        show iprop(slotPts c s fullShare f) ⊢ iprop(∃ f, slotPts c s fullShare f)
        iintro H
        iexists f
        iexact H
    iapply hs
    iexact Hs
  isplitl [Hcopy]; · iexact Hcopy
  isplitl [Hc Hm]
  · isplitl [Hc]; · iexists f; iexact Hc
    iexact Hm
  iexact Hl

/-- All signalled: it may copy in. -/
theorem signal_copy {R : sProp 𝕄} : iprop(sigSt m K c 16 ∗ copyRes m c ∗ R) ⊢ iprop(copySt m K c ∗ R) := by
  unfold sigSt copySt copyRes
  iintro ⟨⟨He, Ho, -⟩, Hc, HR⟩
  isplitr [HR]
  · isplitl [He]; · iexact He
    isplitl [Ho]; · iexact Ho
    iexact Hc
  iexact HR

/-- Copied in: it may store its sums and meet the others. -/
theorem copy_meet {R : sProp 𝕄} : iprop(copiedSt m K c ∗ meetRes c ∗ R) ⊢ iprop((∃ f, slotPts c c fullShare f) ∗ meetSt m K c ∗ copiedRes m c ∗ R) := by
  unfold copiedSt meetRes meetSt copiedRes
  rw [todo_end, todo_zero, show owedSignals ∅ = 0 from rfl, add_zero]
  iintro ⟨⟨He, Ho, Hc⟩, ⟨Hs, Hm⟩, HR⟩
  isplitl [Hs]; · iexact Hs
  isplitl [He Ho Hm]
  · isplitl [He]; · iexact He
    isplitl [Ho]; · iexact Ho
    iexact Hm
  isplitl [Hc]; · iexact Hc
  iexact HR

/-- All sent: it may receive. What stays: a share of its slot, the result's buffer, and the credits for the sends. -/
theorem sent_receive {B C : sProp 𝕄} :
    iprop(sendSt m K c 16 ∗ (B ∗ slotDone m c c (sixteenth c)) ∗ C ∗ laterRes c)
      ⊢ iprop(recvSt m K c 0 ∗ slotDone m c c (sixteenth c) ∗ (∃ f, (c : Thread nD τ).loc cc0_stg0_0 ↦{fullShare} f)
        ∗ (bigSep (Finset.univ.erase c) fun t => iprop(cred (tallyAt (kcell c (send t)) () N) ∗ atPos ER (kcell c (send t)) 0 ∅ 0)) ∗ B ∗ C) := by
  unfold sendSt recvSt laterRes
  rw [todo_end, todo_zero, past_zero, past_end, show owedSends c ∅ = 0 from rfl, bigSep_empty, bigSep_empty]
  iintro ⟨⟨He, Ho, -, Hcr⟩, ⟨HB, Hs⟩, HC, Hr, Ha, Hstg⟩
  isplitl [He Ho Hr]
  · isplitl [He]; · iexact He
    isplitl [Ho]; · iexact Ho
    isplitl [Hr]; · iexact Hr
    iempintro
  isplitl [Hs]; · iexact Hs
  isplitl [Hstg]; · iexact Hstg
  isplitl [Hcr Ha]
  · iapply (Entails.of_eq (bigSep_sep' _ _ _).symm)
    isplitl [Hcr]; · iexact Hcr
    iexact Ha
  isplitl [HB]; · iexact HB
  iexact HC

/-- All received: it may wait for its sends. -/
theorem receive_wait {R A : sProp 𝕄} :
    iprop(A ∗ recvSt m K c 16 ∗ slotDone m c c (sixteenth c)
        ∗ (bigSep (Finset.univ.erase c) fun t => iprop(cred (tallyAt (kcell c (send t)) () N) ∗ atPos ER (kcell c (send t)) 0 ∅ 0)) ∗ R)
      ⊢ iprop(sentSt m K c 0 ∗ (bigSep (Finset.univ.erase c) fun s => atPos ER (kcell c (recv s)) 1 ∅ 0)
        ∗ (bigSep (Finset.univ.erase c) fun s : Dev nD => slotDone m c s fullShare) ∗ slotDone m c c (sixteenth c) ∗ A ∗ R) := by
  have hr := recvSt_end m K c
  unfold sentSt
  rw [todo_zero, past_zero, bigSep_empty]
  iintro ⟨HA, Hr, Hc, Hsend, HR⟩
  ihave Hr := (Entails.of_eq hr) $$ Hr
  icases Hr with ⟨He, Ho, Ha, Hs⟩
  isplitl [He Ho Hsend]
  · isplitl [He]; · iexact He
    isplitl [Ho]; · iexact Ho
    isplitl [Hsend]; · iexact Hsend
    iempintro
  isplitl [Ha]; · iexact Ha
  isplitl [Hs]; · iexact Hs
  isplitl [Hc]; · iexact Hc
  isplitl [HA]; · iexact HA
  iexact HR

/-- All waited for: the whole buffer is back. -/
theorem wait_end :
    iprop(sentSt m K c 16 ∗ (bigSep (Finset.univ.erase c) fun s => atPos ER (kcell c (recv s)) 1 ∅ 0)
        ∗ (bigSep (Finset.univ.erase c) fun s : Dev nD => slotDone m c s fullShare) ∗ slotDone m c c (sixteenth c)
        ∗ ((c : Thread nD τ).loc cc0_stg0_0 ↦{fullShare} outAt m) ∗ atPos ER (kcell c bar) 1 ∅ 0 ∗ copiedRes m c)
      ⊢ endSt m K c := by
  unfold sentSt endSt
  rw [todo_end, past_end, bigSep_empty]
  iintro ⟨⟨He, Ho, -, Hs⟩, Hr, Hslots, Hc, Hstg, Hbar, Hcopied⟩
  ihave Hs := (Entails.of_eq (bigSep_sep' _ _ _)) $$ Hs
  icases Hs with ⟨Hat, Hsh⟩
  isplitl [He]; · iexact He
  isplitl [Ho]; · iexact Ho
  isplitl [Hcopied]; · iexact Hcopied
  isplitl [Hstg]; · iexact Hstg
  isplitl [Hslots Hc Hsh]
  · iapply (Entails.of_eq ((comm_slots c fullShare (gathered m)).trans (bigSep_univ_at (fun s : Dev nD => slotPts c s fullShare (gathered m)) c)).symm)
    isplitl [Hc Hsh]
    · iapply (Entails.of_eq (slot_shares c c c (gathered m)).symm)
      isplitl [Hc]; · iexact Hc
      iexact Hsh
    iexact Hslots
  isplitl [Hbar]; · iexact Hbar
  isplitl [Hr]; · iexact Hr
  iexact Hat

/-! ## The kernel -/

/-- A program followed by another: the first's outcome is what the second starts from. -/
theorem wpc_bind {α β : Type} {P : sProp 𝕄} {Q : β → sProp 𝕄} {p : Prog (TpuEff nD τ sig (Elt F) Λ₀ .tc) α} {k : α → Prog (TpuEff nD τ sig (Elt F) Λ₀ .tc) β}
    (h : P ⊢ wpc c p fun a => wpc c (k a) Q) : P ⊢ wpc c (p >>= k) Q := by
  unfold wpc at h ⊢
  rw [wp_bind]
  exact h

set_option maxHeartbeats 2000000 in
/-- The kernel, from what a device has at launch to what it has at the end. -/
theorem body_spec : startSt m K c ⊢ wpc c (onBufs (cc0_body (F := F))) fun _ => endSt m K c := by
  rw [cc0_body_eq_skeleton]
  unfold onBufs cc0_body_skel
  refine (start_signal m K c).trans ?_
  refine wpc_bind c ?_
  refine part1_spec m K c ?_
  intro v10 c6
  refine wpc_bind c ?_
  refine part2_spec m K c _ ?_
  intro w2
  refine (signal_copy m K c).trans ?_
  refine wpc_bind c ?_
  refine part3_spec m K c _ _ ?_
  refine (copy_meet m K c).trans ?_
  refine wpc_bind c ?_
  refine part4_spec m K c ?_
  intro w4
  refine wpc_bind c ?_
  refine part5_spec m K c _ _ ?_
  intro w5
  refine wpc_bind c ?_
  refine part6_spec m K c _ (sent_receive m K c) ?_
  refine wpc_bind c ?_
  refine part7_spec m K c ?_
  refine wpc_bind c ?_
  refine part8_spec m K c ?_
  intro w8
  refine (receive_wait m K c).trans ?_
  refine wpc_bind c ?_
  refine part9_spec m K c _ _ ?_
  intro w9
  iterate 7
    apply sent_step m K c
    case hp => exact guard_iff ⟨_, by decide⟩ c
    case ho8 => rfl
  exact wpc_pure c (wait_end m K c)

end Cert.LnGrad
-- ==== Proof.Deal.lean ====
/-
The set-up before the kernels start: every semaphore's record is opened at once for all devices, and each device is
handed its own semaphores' positions and the tokens of what it will pay to others. At the end each device closes all
of its semaphores at zero.
-/
module

public import Idealize.ShloMosaic.Lib.Rounds.Family
public import proofs.«01_k».proof.Proof.Body

@[expose] public section

noncomputable section

namespace Cert.LnGrad

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A device's semaphores, one kind at a time -/

omit [FloatOps F] in
/-- What is held for every semaphore of a device, kind by kind: the barrier, the two copies, the sends, the receives. -/
theorem bigSep_kinds (Φ : CK → sProp 𝕄) : bigSep Finset.univ Φ
    = iprop(Φ bar ∗ (Φ (copy 0) ∗ Φ (copy 1)) ∗ (bigSep Finset.univ fun t => Φ (send t)) ∗ bigSep Finset.univ fun s => Φ (recv s)) := by
  rw [bigSep_univ_sum, bigSep_univ_sum, bigSep_univ_sum, bigSep_univ_of_subsingleton (),
    bigSep_univ_eq_bigSepL [(0 : Fin 2), 1] (by decide) (by decide) fun j => Φ (.inr (.inl j))]
  rfl

/-! ## Dealing the tokens -/

/-- The tokens of what device `c` pays: a signal to every other device, its copies in, and for every other device both
    ends of its copy there. -/
def payToks (c : Dev nD) : sProp 𝕄 :=
  iprop((bigSep (Finset.univ.erase c) fun d => dutyTok ER (kcell d bar) 0 c)
    ∗ (dutyTok ER (kcell c (copy 0)) 0 c ∗ dutyTok ER (kcell c (copy 1)) 0 c)
    ∗ (bigSep (Finset.univ.erase c) fun d => dutyTok ER (kcell c (send d)) 0 c)
    ∗ bigSep (Finset.univ.erase c) fun d => dutyTok ER (kcell d (recv c)) 0 c)

omit [FloatOps F] in
/-- Of all the tokens of one device's semaphores, those that stand for a duty. -/
theorem toks_of_device (c : Dev nD) :
    (bigSep Finset.univ fun k : CK => bigSep Finset.univ fun d : Dev nD => (dutyTok ER (kcell c k) 0 d : sProp 𝕄))
      ⊢ iprop((bigSep Finset.univ fun d : Dev nD => dutyTok ER (kcell c bar) 0 d)
        ∗ (dutyTok ER (kcell c (copy 0)) 0 c ∗ dutyTok ER (kcell c (copy 1)) 0 c)
        ∗ (bigSep Finset.univ fun t : Fin 16 => dutyTok ER (kcell c (send t)) 0 c)
        ∗ bigSep Finset.univ fun s : Fin 16 => dutyTok ER (kcell c (recv s)) 0 s) := by
  have pick (k : CK) (d : Dev nD) :
      (bigSep Finset.univ fun d : Dev nD => (dutyTok ER (kcell c k) 0 d : sProp 𝕄)) ⊢ dutyTok ER (kcell c k) 0 d :=
    bigSep_elim (Finset.mem_univ d)
  have picks (k : Fin 16 → CK) (d : Fin 16 → Dev nD) :
      (bigSep Finset.univ fun t : Fin 16 => bigSep Finset.univ fun d : Dev nD => (dutyTok ER (kcell c (k t)) 0 d : sProp 𝕄))
        ⊢ bigSep Finset.univ fun t : Fin 16 => dutyTok ER (kcell c (k t)) 0 (d t) :=
    bigSep_mono fun t _ => pick (k t) (d t)
  rw [bigSep_kinds]
  iintro ⟨Hb, ⟨H0, H1⟩, Hs, Hr⟩
  isplitl [Hb]; · iexact Hb
  isplitl [H0 H1]
  · isplitl [H0]
    · iapply (pick (copy 0) c); iexact H0
    · iapply (pick (copy 1) c); iexact H1
  isplitl [Hs]
  · iapply (picks send fun _ => c); iexact Hs
  · iapply (picks recv fun s => s); iexact Hr

omit [FloatOps F] in
/-- Every device is handed the tokens of what it pays. -/
theorem toks_dealt :
    (bigSep Finset.univ fun c : Dev nD => bigSep Finset.univ fun k : CK => bigSep Finset.univ fun d : Dev nD => (dutyTok ER (kcell c k) 0 d : sProp 𝕄))
      ⊢ bigSep Finset.univ fun c : Dev nD => payToks c := by
  have others (Φ : Dev nD → Dev nD → sProp 𝕄) : (bigSep Finset.univ fun c => bigSep Finset.univ (Φ c))
      ⊢ bigSep Finset.univ fun c => bigSep (Finset.univ.erase c) (Φ c) :=
    bigSep_mono fun c _ => bigSep_subset (Finset.erase_subset _ _)
  suffices h : (bigSep Finset.univ fun c : Dev nD => iprop((bigSep Finset.univ fun d : Dev nD => dutyTok ER (kcell c bar) 0 d)
        ∗ (dutyTok ER (kcell c (copy 0)) 0 c ∗ dutyTok ER (kcell c (copy 1)) 0 c)
        ∗ (bigSep Finset.univ fun t : Fin 16 => dutyTok ER (kcell c (send t)) 0 c)
        ∗ bigSep Finset.univ fun s : Fin 16 => dutyTok ER (kcell c (recv s)) 0 s))
      ⊢ (bigSep Finset.univ fun c : Dev nD => payToks c : sProp 𝕄) from (bigSep_mono fun c _ => toks_of_device c).trans h
  unfold payToks
  simp only [bigSep_sep']
  rw [bigSep_univ_comm (fun (c d : Dev nD) => (dutyTok ER (kcell c bar) 0 d : sProp 𝕄)),
    bigSep_univ_comm (fun (c s : Dev nD) => (dutyTok ER (kcell c (recv s)) 0 s : sProp 𝕄))]
  iintro ⟨Hb, Hc, Hs, Hr⟩
  isplitl [Hb]
  · iapply (others fun c d => dutyTok ER (kcell d bar) 0 c); iexact Hb
  isplitl [Hc]; · iexact Hc
  isplitl [Hs]
  · iapply (others fun c d => dutyTok ER (kcell c (send d)) 0 c); iexact Hs
  · iapply (others fun c d => dutyTok ER (kcell d (recv c)) 0 c); iexact Hr

/-! ## The launch's own state -/

/-- Every semaphore of the exchange, -/
def allCells : Finset (GSem nD τ sig) := Finset.univ.map ⟨fun ck : Dev nD × CK => kcell ck.1 ck.2, kcell_injective⟩

/-- The token of a semaphore's one round for a device, -/
def tokAt (x : (Dev nD × CK) × Dev nD) : GSem nD τ sig × ℕ × Dev nD := (kcell x.1.1 x.1.2, 0, x.2)
/-- a different one for each semaphore and device, -/
theorem tokAt_injective : Function.Injective tokAt := by
  rintro ⟨ck, d⟩ ⟨ck', d'⟩ h
  have h1 : ck = ck' := kcell_injective (congrArg Prod.fst h)
  have h2 : d = d' := congrArg (fun y => y.2.2) h
  rw [h1, h2]
/-- and a token for every semaphore and device. -/
def allToks : Finset (GSem nD τ sig × ℕ × Dev nD) := Finset.univ.map ⟨tokAt, tokAt_injective⟩

/-- The ghost state at launch: the staging pipeline's, and all semaphores and tokens of the exchange. -/
def u₀ : UU := (initOf (Pipeline.cells cfgs cellOf_inj) (Pipeline.launchToks cfgs cellOf_inj), initOf allCells allToks)

/-- What the launch gives device `c` first: its semaphores' rounds, positions and tokens, all at the start. -/
def G (c : Dev nD) : sProp 𝕄 :=
  iprop((bigSep Finset.univ fun k : CK => roundState ER (Rd m) (kcell c k) 0)
    ∗ (bigSep Finset.univ fun k : CK => reached ER (kcell c k) 0)
    ∗ (bigSep Finset.univ fun k : CK => atPos ER (kcell c k) 0 ∅ 0)
    ∗ bigSep Finset.univ fun k : CK => bigSep Finset.univ fun d : Dev nD => dutyTok ER (kcell c k) 0 d)

/-- What device `c` starts with once the records are open: them, its positions, and the tokens it pays with. -/
def G' (c : Dev nD) : sProp 𝕄 :=
  iprop(∃ K, records m K ∗ (bigSep Finset.univ fun k : CK => atPos ER (kcell c k) 0 ∅ 0) ∗ payToks c)

/-- The launch's ghost state is every device's share of it. -/
theorem fund_all : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun k : CK => Φ (kcell c k) := by
    unfold allCells; rw [bigSep_map, bigSep_univ_prod]; rfl
  have hT : bigSep allToks (fun x => (dutyTok ER x.1 x.2.1 x.2.2 : sProp 𝕄))
      = bigSep Finset.univ fun c : Dev nD => bigSep Finset.univ fun k : CK => bigSep Finset.univ fun d : Dev nD => dutyTok ER (kcell c k) 0 d := by
    unfold allToks; rw [bigSep_map, bigSep_univ_prod, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hr' := (Entails.of_eq (hX fun g => reached ER g 0)) $$ Hr
  ihave Hat' := (Entails.of_eq (hX fun g => atPos ER g 0 ∅ 0)) $$ Hat
  ihave Htok' := (Entails.of_eq hT) $$ Htok
  unfold G; simp only [bigSep_sep']
  isplitl [Hst']; · iexact Hst'
  isplitl [Hr']; · iexact Hr'
  isplitl [Hat']; · iexact Hat'
  iexact Htok'

omit [FloatOps F] in
/-- The kernel's own semaphores and the barrier are all of a device's semaphores of the exchange. -/
theorem sems_eq (c : Dev nD) :
    iprop(unscopedSems0 c ∗ Pipeline.ownSems0 (Ix := Unit) (Name := ℕ) (U := UU) (Lvl := ℕ) (Val := Elt F) (τ := τ) osem c)
      = (bigSep Finset.univ fun k : CK => semVal (kcell c k) 0 : sProp 𝕄) := by
  unfold unscopedSems0
  rw [bigSep_eq_bigSepL_of_eq [SemLoc.reg barS] (by decide) (by decide), bigSep_univ_sum, bigSep_univ_of_subsingleton ()]
  rfl

/-- Device `c` opens its semaphores' records. -/
theorem open_device (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell c k)))
          ∗ (bigSep Finset.univ fun k : CK => reached ER (kcell c k) 0)
          ∗ (bigSep Finset.univ fun k : CK => atPos ER (kcell c k) 0 ∅ 0)
          ∗ bigSep Finset.univ fun k : CK => bigSep Finset.univ fun d : Dev nD => dutyTok ER (kcell c k) 0 d) := by
  unfold G
  iintro ⟨Hos, Hus, Hst, Hrest⟩
  ihave Hv := (Entails.of_eq (sems_eq (F := F) c)) $$ [Hos Hus]
  · isplitl [Hus] <;> iassumption
  imod (show iprop((bigSep Finset.univ fun k : CK => semVal (kcell c k) 0) ∗ bigSep Finset.univ fun k : CK => roundState ER (Rd m) (kcell c k) 0)
      ⊢ (|={Set.univ}=> bigSep Finset.univ fun k : CK => iprop(∃ κ : ℕ, cellInv ER (Rd m) κ (kcell c k)) : sProp 𝕄) from by
        rw [← bigSep_sep']
        exact (bigSep_mono fun k _ => (Rounds.body_intro ER (Rd m) (kcell c k)).trans inv_alloc).trans (bigSep_fupd _ _)) $$ [Hv Hst] with Hinv
  · isplitl [Hv] <;> iassumption
  imodintro
  isplitl [Hinv]; · iexact Hinv
  iexact Hrest

/-- The records of all devices are gathered, shared by all, and the tokens dealt. -/
theorem share_records :
    (bigSep Finset.univ fun c : Dev nD => iprop((bigSep Finset.univ fun k : CK => iprop(∃ κ : ℕ, cellInv ER (Rd m) κ (kcell c k)))
          ∗ (bigSep Finset.univ fun k : CK => reached ER (kcell c k) 0)
          ∗ (bigSep Finset.univ fun k : CK => atPos ER (kcell c k) 0 ∅ 0)
          ∗ bigSep Finset.univ fun k : CK => bigSep Finset.univ fun d : Dev nD => dutyTok ER (kcell c k) 0 d) : sProp 𝕄)
      ⊢ bigSep Finset.univ (G' m) := by
  rw [bigSep_sep', bigSep_sep', bigSep_sep',
    ← bigSep_univ_prod (fun ck : Dev nD × CK => iprop(∃ κ : ℕ, cellInv ER (Rd m) κ (kcell ck.1 ck.2))),
    ← bigSep_univ_prod (fun ck : Dev nD × CK => (reached ER (kcell ck.1 ck.2) 0 : sProp 𝕄))]
  iintro ⟨HI, #HR, Hat, Htok⟩
  ihave HK := (BI.bigSep_exists_pi Finset.univ (fun (ck : Dev nD × CK) (κ : ℕ) => (cellInv ER (Rd m) κ (kcell ck.1 ck.2) : sProp 𝕄))) $$ HI
  icases HK with ⟨%K, #HI⟩
  ihave Htk := (toks_dealt (F := F)) $$ Htok
  iapply (bigSep_with_persistent (R := records m K)
    (Φ := fun c => iprop((bigSep Finset.univ fun k : CK => atPos ER (kcell c k) 0 ∅ 0) ∗ payToks c)) fun c _ =>
      show _ ⊢ G' m c by unfold G'; iintro H; iexists K; iexact H)
  isplitr
  · unfold records; isplitl; · iexact HI
    iexact HR
  · iapply (Entails.of_eq (bigSep_sep' Finset.univ
      (fun c : Dev nD => bigSep Finset.univ fun k : CK => (atPos ER (kcell c k) 0 ∅ 0 : sProp 𝕄)) payToks).symm)
    isplitl [Hat]; · iexact Hat
    iexact Htk

/-- From semaphores at zero and the launch's ghost state, every device gets what it starts with. -/
theorem all_set_up :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => open_device m c).trans (bigSep_fupd _ _)).trans (BI.fupd_mono (share_records m))

/-! ## What each device is owed at launch -/

omit [FloatOps F] in
/-- What a sum of debts owes to one semaphore: the amounts of those debts that are to it. -/
theorem tally_sum_apply {ι : Type} [DecidableEq ι] (S : Finset ι) (cell : ι → GSem nD τ sig) (n : ℕ) (g : GSem nD τ sig) :
    (∑ t ∈ S, (tallyAt (cell t) () n : CellTallies nD τ sig Unit)) g () = ∑ t ∈ S, if g = cell t then n else 0 := by
  induction S using Finset.induction_on with
  | empty => rfl
  | insert a S ha ih =>
    rw [Finset.sum_insert ha, Finset.sum_insert ha, Pi.add_apply, Finsupp.add_apply, tallyAt_apply, ih]
    congr 1
    exact if_congr (and_iff_left rfl) rfl rfl

/-- Two semaphores are one when they have the same device and kind. -/
theorem kcell_eq_iff {c d : Dev nD} {k k' : CK} : kcell c k = kcell d k' ↔ c = d ∧ k = k' :=
  ⟨fun h => Prod.mk.inj (kcell_injective (a₁ := (c, k)) (a₂ := (d, k')) h), fun ⟨h, h'⟩ => h ▸ h' ▸ rfl⟩

/-- Device `d` owes every other device's barrier one signal, -/
theorem owed_bar (d c : Dev nD) : O₀ d (kcell c bar) () = if d ≠ c then 1 else 0 := by
  unfold O₀ owedSends owedSignals
  rw [Pi.add_apply, Finsupp.add_apply, tally_sum_apply, tally_sum_apply, Finset.sum_eq_zero (fun t _ => if_neg fun h => by
      have := (kcell_eq_iff.mp h).2; cases this), Nat.zero_add,
    Finset.sum_congr rfl fun t _ => if_congr (kcell_eq_iff.trans (and_iff_left rfl)) rfl rfl, Finset.sum_ite_eq]
  exact if_congr (by rw [Finset.mem_erase]; exact ⟨fun h => Ne.symm h.1, fun h => ⟨Ne.symm h, Finset.mem_univ _⟩⟩) rfl rfl

/-- and every other device a copy, on the receive semaphore of its own number. -/
theorem owed_recv (d c s : Dev nD) (hs : s ≠ c) : O₀ d (kcell c (recv s)) () = if d = s then N else 0 := by
  unfold O₀ owedSends owedSignals
  rw [Pi.add_apply, Finsupp.add_apply, tally_sum_apply, tally_sum_apply,
    Finset.sum_eq_zero (s := Finset.univ.erase d) (f := fun t => if kcell c (recv s) = kcell t bar then 1 else 0) (fun t _ => if_neg fun h => by
      have := (kcell_eq_iff.mp h).2; cases this), Nat.add_zero]
  by_cases h : d = s
  · subst h
    rw [if_pos rfl, Finset.sum_congr rfl fun t _ => if_congr (kcell_eq_iff.trans (and_iff_left rfl)) rfl rfl, Finset.sum_ite_eq,
      if_pos (Finset.mem_erase.mpr ⟨Ne.symm hs, Finset.mem_univ _⟩)]
  · rw [if_neg h]
    refine Finset.sum_eq_zero fun t _ => if_neg fun e => h ?_
    have e2 := (kcell_eq_iff.mp e).2
    simp only [Sum.inr.injEq] at e2
    exact e2.symm

/-- At launch a barrier is credited fifteen signals, -/
theorem launch_bar (c : Dev nD) :
    tallyOn (kcell c bar) (launchCredit (Pipeline.owing O₀) 0 (kcell c bar)) = (tallyAt (kcell c bar) () 15 : CellTallies nD τ sig Unit) := by
  unfold tallyAt; refine congrArg _ (Finsupp.ext fun u => ?_); cases u
  rw [Pipeline.launchCredit_owing, Finsupp.single_eq_same, Finset.sum_congr rfl fun d _ => owed_bar d c, ← Finset.sum_filter,
    Finset.sum_const, Finset.filter_ne', Finset.card_erase_of_mem (Finset.mem_univ _)]
  rfl

/-- and a receive semaphore the one copy of its sender. -/
theorem launch_recv (c s : Dev nD) (hs : s ≠ c) :
    tallyOn (kcell c (recv s)) (launchCredit (Pipeline.owing O₀) 0 (kcell c (recv s))) = (tallyAt (kcell c (recv s)) () N : CellTallies nD τ sig Unit) := by
  unfold tallyAt; refine congrArg _ (Finsupp.ext fun u => ?_); cases u
  rw [Pipeline.launchCredit_owing, Finsupp.single_eq_same, Finset.sum_congr rfl fun d _ => owed_recv d c s hs,
    Finset.sum_ite_eq' Finset.univ s fun _ => N, if_pos (Finset.mem_univ _)]

omit [FloatOps F] in
/-- At launch a device is owed fifteen signals and fifteen copies. -/
theorem launch_credits (c : Dev nD) :
    (Pipeline.launchCred O₀ c : sProp 𝕄) ⊢ iprop(cred (tallyAt (kcell c bar) () 15)
      ∗ bigSep (Finset.univ.erase c) fun s => cred (tallyAt (kcell c (recv s)) () N)) := by
  have kinds : (Pipeline.launchCred O₀ c : sProp 𝕄)
      ⊢ bigSep Finset.univ fun k : CK => cred (tallyOn (kcell c k) (launchCredit (Pipeline.owing O₀) 0 (kcell c k))) := by
    have h := bigSep_subset (Φ := fun sm : SemLoc sig => (cred (tallyOn ((c.tc : Thread nD τ), sm)
      (launchCredit (Pipeline.owing O₀) 0 ((c.tc : Thread nD τ), sm))) : sProp 𝕄)) (Finset.subset_univ (Finset.univ.map ⟨csem, csem_injective⟩))
    rw [bigSep_map] at h
    exact h
  have recvs : (bigSep Finset.univ fun s : Fin 16 => (cred (tallyOn (kcell c (recv s)) (launchCredit (Pipeline.owing O₀) 0 (kcell c (recv s)))) : sProp 𝕄))
      ⊢ bigSep (Finset.univ.erase c) fun s => cred (tallyAt (kcell c (recv s)) () N) :=
    (bigSep_subset (Finset.erase_subset c _)).trans
      (bigSep_mono fun s hs => Entails.of_eq (congrArg cred (launch_recv c s (Finset.ne_of_mem_erase hs))))
  rw [bigSep_kinds] at kinds
  iintro H
  ihave H' := kinds $$ H
  icases H' with ⟨Hb, -, -, Hr⟩
  isplitl [Hb]
  · iapply (Entails.of_eq (congrArg cred (launch_bar c))); iexact Hb
  · iapply recvs; iexact Hr

/-! ## Closing -/

/-- How many rounds semaphore `k` of device `c` goes through: one, if anyone pays it. -/
def roundsOf (c : Dev nD) (k : CK) : ℕ := if dutyK c k = ∅ then 0 else 1

/-- After its rounds a semaphore is owed nothing more. -/
theorem roundsOf_done (c : Dev nD) (k : CK) : ∀ r, roundsOf c k ≤ r → (Rd (F := F) m).duties (kcell c k) r = ∅ := by
  unfold roundsOf
  split
  · next h => exact duties_none m c k h
  · exact duties_later m _

/-- A semaphore that someone pays has one round. -/
theorem roundsOf_paid (c : Dev nD) (k : CK) {d : Dev nD} (h : d ∈ dutyK c k) : roundsOf c k = 1 :=
  if_neg (Finset.ne_empty_of_mem h)

/-- A device whose semaphores have gone through their rounds closes them all at zero. -/
theorem close_device (K : Dev nD × CK → ℕ) (c : Dev nD) :
    iprop(env m K ∗ bigSep Finset.univ fun k : CK => atPos ER (kcell c k) (roundsOf c k) ∅ 0)
      ⊢ (|={Set.univ}=> bigSep Finset.univ fun k : CK => semVal (kcell c k) 0 : sProp 𝕄) := by
  have each (k : CK) : iprop(env m K ∗ atPos ER (kcell c k) (roundsOf c k) ∅ 0)
      ⊢ (iprop(cellInv ER (Rd m) (K (c, k)) (kcell c k) ∗ atPos ER (kcell c k) (roundsOf c k) ∅ 0) : sProp 𝕄) := by
    iintro ⟨#He, Ha⟩
    isplitr
    · iapply (env_inv m K c k); iexact He
    · iexact Ha
  exact (bigSep_with_persistent fun k _ => each k).trans
    (Rounds.cells_close ER (Rd m) Finset.univ (kcell c) (fun k => K (c, k)) (fun _ _ => Set.mem_univ _) (fun _ _ => id) (roundsOf c)
      (fun k _ => roundsOf_done m c k))

end Cert.LnGrad
-- ==== Proof.Run.lean ====
/-
The run of the whole mesh: from any memory with zero counters every device ends with the sum of all sixteen devices'
partial sums as its result, its arguments unchanged and every semaphore counter at zero. For any float values.
-/
module

public import proofs.«01_k».proof.Proof.Deal
public import proofs.«01_k».proof.Proof.Gen.KernelIdeal.Points
public import Idealize.ShloMosaic.Lib.Pipeline.CollectiveSegs

@[expose] public section

noncomputable section

namespace Cert.LnGrad

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ) (c : Dev nD)

/-! ## Between the launch and the body -/

/-- The third argument, which the kernel reads and does not use. -/
def thirdPts : sProp 𝕄 := (c : Thread nD τ).loc main_arg2 ↦{fullShare} m ((c : Thread nD τ).loc main_arg2)

/-- What a device's first step starts with besides its scratch buffers, -/
def startX : sProp 𝕄 :=
  iprop(G' m c ∗ levAts L lv ∗ (cred (tallyAt (kcell c bar) () 15) ∗ bigSep (Finset.univ.erase c) fun s => cred (tallyAt (kcell c (recv s)) () N))
    ∗ argPts m c ∗ thirdPts m c)

/-- the scratch buffers, at any contents, -/
def scratchPts : sProp 𝕄 :=
  iprop((∃ f, (c : Thread nD τ).loc cc0_scratch0 ↦{fullShare} f) ∗ (∃ f, (c : Thread nD τ).loc cc0_scratch1 ↦{fullShare} f)
    ∗ ∃ f, (c : Thread nD τ).loc cc0_scratch2 ↦{fullShare} f)

/-- and what it has after. -/
def endY : sProp 𝕄 := iprop(unscopedSems0 c ∗ argPts m c ∗ thirdPts m c)

/-- The semaphores that are paid are at round 1, the two of the device's own number at round 0. -/
theorem positions_end :
    iprop(endSt m K c ∗ atPos ER (kcell c (send c)) 0 ∅ 0 ∗ atPos ER (kcell c (recv c)) 0 ∅ 0)
      ⊢ (iprop((env m K ∗ bigSep Finset.univ fun k : CK => atPos ER (kcell c k) (roundsOf c k) ∅ 0)
          ∗ owing c 0 ∗ argPts m c ∗ scratchPts c ∗ ((c : Thread nD τ).loc cc0_stg0_0 ↦{fullShare} outAt m)) : sProp 𝕄) := by
  have hbar : roundsOf c bar = 1 := by
    have hne : (Finset.univ.erase c).Nonempty := by
      rw [← Finset.card_pos, Finset.card_erase_of_mem (Finset.mem_univ _)]; decide
    obtain ⟨d, hd⟩ := hne
    exact roundsOf_paid c bar hd
  have hcopy (j : Fin 2) : roundsOf c (copy j) = 1 := roundsOf_paid c (copy j) (Finset.mem_singleton_self c)
  have hsend (t : Fin 16) (h : t ≠ c) : roundsOf c (send t) = 1 :=
    roundsOf_paid c (send t) (d := c) (by rw [dutyK_send h]; exact Finset.mem_singleton_self _)
  have hrecv (s : Fin 16) (h : s ≠ c) : roundsOf c (recv s) = 1 :=
    roundsOf_paid c (recv s) (d := s) (by rw [dutyK_recv h]; exact Finset.mem_singleton_self _)
  have hsend' : roundsOf c (send c) = 0 := if_pos (if_pos rfl)
  have hrecv' : roundsOf c (recv c) = 0 := if_pos (if_pos rfl)
  have esend : bigSep (Finset.univ.erase c) (fun t : Fin 16 => atPos ER (kcell c (send t)) (roundsOf c (send t)) ∅ 0)
      = (bigSep (Finset.univ.erase c) fun t : Fin 16 => atPos ER (kcell c (send t)) 1 ∅ 0 : sProp 𝕄) :=
    bigSep_congr fun t ht => by rw [hsend t (Finset.ne_of_mem_erase ht)]
  have erecv : bigSep (Finset.univ.erase c) (fun s : Fin 16 => atPos ER (kcell c (recv s)) (roundsOf c (recv s)) ∅ 0)
      = (bigSep (Finset.univ.erase c) fun s : Fin 16 => atPos ER (kcell c (recv s)) 1 ∅ 0 : sProp 𝕄) :=
    bigSep_congr fun s hs => by rw [hrecv s (Finset.ne_of_mem_erase hs)]
  rw [bigSep_kinds, hbar, hcopy, hcopy, bigSep_univ_at (fun t : Fin 16 => atPos ER (kcell c (send t)) (roundsOf c (send t)) ∅ 0) c,
    bigSep_univ_at (fun s : Fin 16 => atPos ER (kcell c (recv s)) (roundsOf c (recv s)) ∅ 0) c, hsend', hrecv', esend, erecv]
  unfold endSt copiedRes scratchPts
  rw [show dstPts m 0 c = ((c : Thread nD τ).loc cc0_scratch0 ↦{fullShare} xRows m c) from if_pos rfl,
    show dstPts m 1 c = ((c : Thread nD τ).loc cc0_scratch1 ↦{fullShare} dyRows m c) from if_neg (by decide)]
  iintro ⟨⟨He, Ho, ⟨Ha, H0, H1, Hp0, Hp1⟩, Hout, H2, Hb, Hr, Hs⟩, Hs', Hr'⟩
  isplitl [He Hp0 Hp1 Hb Hr Hs Hs' Hr']
  · isplitl [He]; · iexact He
    isplitl [Hb]; · iexact Hb
    isplitl [Hp0 Hp1]
    · isplitl [Hp0] <;> iassumption
    isplitl [Hs Hs']
    · isplitl [Hs'] <;> iassumption
    · isplitl [Hr'] <;> iassumption
  isplitl [Ho]; · iexact Ho
  isplitl [Ha]; · iexact Ha
  isplitr [Hout]
  · isplitl [H0]; · iexists _; iexact H0
    isplitl [H1]; · iexists _; iexact H1
    iexists _; iexact H2
  iexact Hout

/-- What a device starts with, sorted for the body; its own numbers' places are left over. -/
theorem start_sorted :
    iprop((records m K ∗ (bigSep Finset.univ fun k : CK => atPos ER (kcell c k) 0 ∅ 0) ∗ payToks c) ∗ levAts L lv
        ∗ (cred (tallyAt (kcell c bar) () 15) ∗ bigSep (Finset.univ.erase c) fun s => cred (tallyAt (kcell c (recv s)) () N))
        ∗ argPts m c ∗ scratchPts c ∗ owing c (O₀ c) ∗ ∃ f, (c : Thread nD τ).loc cc0_stg0_0 ↦{fullShare} f)
      ⊢ (iprop(startSt m K c ∗ atPos ER (kcell c (send c)) 0 ∅ 0 ∗ atPos ER (kcell c (recv c)) 0 ∅ 0) : sProp 𝕄) := by
  rw [bigSep_kinds, bigSep_univ_at (fun t : Fin 16 => atPos ER (kcell c (send t)) 0 ∅ 0) c,
    bigSep_univ_at (fun s : Fin 16 => atPos ER (kcell c (recv s)) 0 ∅ 0) c]
  unfold startSt copyRes laterRes payToks scratchPts env
  rw [bigSep_sep', bigSep_sep']
  iintro ⟨⟨HR, ⟨Hb, ⟨Hp0, Hp1⟩, ⟨Hs', Hs⟩, Hr', Hr⟩, Htb, ⟨Ht0, Ht1⟩, Hts, Htr⟩, Hl, ⟨Hcb, Hcr⟩, Ha, ⟨H0, H1, H2⟩, Ho, Hst⟩
  isplitr [Hs' Hr']
  · isplitl [HR Hl]
    · isplitl [HR] <;> iassumption
    isplitl [Ho]; · iexact Ho
    isplitl [Htb]; · iexact Htb
    isplitl [H2]; · iexact H2
    isplitl [Ha H0 H1 Ht0 Hp0 Ht1 Hp1]
    · isplitl [Ha]; · iexact Ha
      isplitl [H0]; · iexact H0
      isplitl [H1]; · iexact H1
      isplitl [Ht0 Hp0]
      · isplitl [Ht0] <;> iassumption
      · isplitl [Ht1] <;> iassumption
    isplitl [Hcb Hb Htr Hts]
    · isplitl [Hcb]; · iexact Hcb
      isplitl [Hb]; · iexact Hb
      isplitl [Htr] <;> iassumption
    isplitl [Hcr Hr]
    · isplitl [Hcr] <;> iassumption
    isplitl [Hs] <;> iassumption
  · isplitl [Hs'] <;> iassumption

/-- What the body leaves. -/
def afterBody : sProp 𝕄 :=
  iprop(((bigSep Finset.univ fun k : CK => semVal (kcell c k) 0) ∗ argPts m c ∗ thirdPts m c ∗ scratchPts c)
    ∗ owing c 0 ∗ ((c : Thread nD τ).loc cc0_stg0_0 ↦{fullShare} outAt m))

/-- At the end of the body every semaphore is closed at zero. -/
theorem end_closed :
    iprop(endSt m K c ∗ atPos ER (kcell c (send c)) 0 ∅ 0 ∗ atPos ER (kcell c (recv c)) 0 ∅ 0 ∗ thirdPts m c)
      ⊢ (|={Set.univ}=> afterBody m c : sProp 𝕄) := by
  unfold afterBody
  iintro ⟨He, Hs, Hr, H3⟩
  ihave H := (positions_end m K c) $$ [He Hs Hr]
  · isplitl [He]; · iexact He
    isplitl [Hs] <;> iassumption
  icases H with ⟨Hp, Ho, Ha, Hscr, Hout⟩
  imod (close_device m K c) $$ Hp with Hv
  imodintro
  isplitr [Ho Hout]
  · isplitl [Hv]; · iexact Hv
    isplitl [Ha]; · iexact Ha
    isplitl [H3] <;> iassumption
  isplitl [Ho] <;> iassumption

/-- The whole body, from what the launch gives to what it takes back. -/
theorem body_closed :
    iprop(startX m c ∗ scratchPts c ∗ owing c (O₀ c) ∗ ∃ f, (c : Thread nD τ).loc cc0_stg0_0 ↦{fullShare} f)
      ⊢ wpc c (onBufs (cc0_body (F := F))) fun _ => afterBody m c := by
  have framed (K : Dev nD × CK → ℕ) :
      iprop(startSt m K c ∗ atPos ER (kcell c (send c)) 0 ∅ 0 ∗ atPos ER (kcell c (recv c)) 0 ∅ 0 ∗ thirdPts m c)
        ⊢ wpc c (onBufs (cc0_body (F := F))) fun _ => afterBody m c :=
    (sep_mono_left (body_spec m K c)).trans <|
      (wp_frame_r _ _ _).trans <| (wp_mono _ _ _ fun _ => end_closed m K c).trans (wp_fupd _ _ _ _ _)
  unfold startX G'
  iintro ⟨⟨⟨%K, Hg⟩, Hl, Hc, Ha, H3⟩, Hscr, Ho, Hst⟩
  iapply (framed K)
  ihave H := (start_sorted m K c) $$ [Hg Hl Hc Ha Hscr Ho Hst]
  · isplitl [Hg]; · iexact Hg
    isplitl [Hl]; · iexact Hl
    isplitl [Hc]; · iexact Hc
    isplitl [Ha]; · iexact Ha
    isplitl [Hscr]; · iexact Hscr
    isplitl [Ho] <;> iassumption
  icases H with ⟨H, Hs, Hr⟩
  isplitl [H]; · iexact H
  isplitl [Hs]; · iexact Hs
  isplitl [Hr] <;> iassumption

/-! ## The launch's data -/

/-- The launch: what the arrays hold, what the result's block holds after the body, what the body starts from and ends with, and what is owed then. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m
  Φ t := match t with
    | ⟨0, _⟩ => iprop(startX m c ∗ scratchPts c)
    | ⟨_ + 1, _⟩ => iprop((bigSep Finset.univ fun k : CK => semVal (kcell c k) 0) ∗ argPts m c ∗ thirdPts m c ∗ scratchPts c)
  q _ := fullShare
  owed t := match t with
    | ⟨0, _⟩ => O₀ c
    | ⟨_ + 1, _⟩ => 0

/-- A whole buffer owned at contents `X`. -/
theorem owns_whole_iff (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

set_option maxRecDepth 4000 in
/-- The body does what the launch asks of it. -/
theorem body_obligation : BodyObligation (dats (F := F) m ρ 0 c) (defs₀ (F := F)) 𝒱₀ () Set.univ := fun t => by
  rw [fin_N0 t, bigSep_W0, bigSep_W0]
  simp only [owns_whole_iff]
  show iprop((startX m c ∗ scratchPts c) ∗ (dats m ρ 0 c).owesAt () t0_0.castSucc
      ∗ (∃ d, ∃ f : Buf (Elt F) ((c : Thread nD τ).loc cc0_stg0_0), ⌜f = (dats m ρ 0 c).before (0 : Fin 1) t0_0 d⌝ ∗ ((c : Thread nD τ).loc cc0_stg0_0 ↦{fullShare} f)))
    ⊢ wpc c (onBufs (cc0_body (F := F))) fun _ =>
      iprop(((bigSep Finset.univ fun k : CK => semVal (kcell c k) 0) ∗ argPts m c ∗ thirdPts m c ∗ scratchPts c)
        ∗ (dats m ρ 0 c).owesAt () t0_0.succ
        ∗ ∃ f : Buf (Elt F) ((c : Thread nD τ).loc cc0_stg0_0), ⌜f = outAt m⌝ ∗ ((c : Thread nD τ).loc cc0_stg0_0 ↦{fullShare} f))
  have post : afterBody m c ⊢ iprop(((bigSep Finset.univ fun k : CK => semVal (kcell c k) 0) ∗ argPts m c ∗ thirdPts m c ∗ scratchPts c)
        ∗ (dats m ρ 0 c).owesAt () t0_0.succ
        ∗ ∃ f : Buf (Elt F) ((c : Thread nD τ).loc cc0_stg0_0), ⌜f = outAt m⌝ ∗ ((c : Thread nD τ).loc cc0_stg0_0 ↦{fullShare} f)) := by
    unfold afterBody owing Dat.owesAt Pipeline.owesWithin
    rw [show (dats m ρ 0 c).owed t0_0.succ = 0 from rfl]
    iintro ⟨H, ⟨%W, Ho⟩, Hout⟩
    isplitl [H]; · iexact H
    isplitl [Ho]
    · iexists W
      isplitr; · ipureintro; exact fun _ _ => Or.inl trivial
      iexact Ho
    iexists _
    isplitr; · (ipureintro; rfl)
    iexact Hout
  have main := (body_closed m c).trans (wp_mono _ _ _ fun _ => post)
  iintro ⟨⟨HX, Hscr⟩, Ho, ⟨%d, %f, %hf, Hst⟩⟩
  iapply main
  isplitl [HX]; · iexact HX
  isplitl [Hscr]; · iexact Hscr
  unfold owing Dat.owesAt Pipeline.owesWithin
  rw [show (dats m ρ 0 c).owed t0_0.castSucc = O₀ c from rfl]
  icases Ho with ⟨%W, %hW, Ho⟩
  isplitl [Ho]; · iexists W; iexact Ho
  iexists f; iexact Hst

/-! ## The launch's conditions -/

/-- The scoped semaphores are those of the exchange. -/
theorem ownSemFacts : Pipeline.OwnSemFacts cfg0.spec osem := by decide

/-- Every window's array is held whole. -/
theorem share_full (w : Fin cfg0.W) : (dats m ρ 0 c).share w = fullShare := by unfold Dat.share; split <;> rfl

/-- What the launch hands a device is what it starts from. -/
theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(startX m c ∗ emp) := by
  rw [Pipeline.unscopedRestP_none, unscopedRest0_eq]
  unfold startX argPts thirdPts
  iintro ⟨⟨H0, H1, H2⟩, Hlev, Hcr, -, HG⟩
  ihave Hc := (launch_credits (F := F) c) $$ Hcr
  imodintro
  isplitl
  · isplitl [HG]; · iexact HG
    isplitl [Hlev]; · iexact Hlev
    isplitl [Hc]; · iexact Hc
    isplitr [H2]
    · isplitl [H0] <;> iassumption
    iexact H2
  · iempintro

/-- With the scratch buffers that is what the body starts from, -/
theorem enter :
    iprop(startX m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(startX m c ∗ scratchPts c) from rfl, scopedRest0_eq]
  unfold scratchPts
  iintro ⟨Hs, -, Hr⟩
  isplitl [Hs]; · iexact Hs
  iexact Hr

/-- and what the body ends with gives the scratch and the semaphores back. -/
theorem leave :
    (dats m ρ 0 c).Φ (Fin.last cfg0.N) ⊢ iprop(endY m c ∗ Pipeline.ownSems0 osem c ∗ Pipeline.scopedRest cfg0.spec c) := by
  rw [show (dats m ρ 0 c).Φ (Fin.last cfg0.N)
      = iprop((bigSep Finset.univ fun k : CK => semVal (kcell c k) 0) ∗ argPts m c ∗ thirdPts m c ∗ scratchPts c) from rfl, scopedRest0_eq, ← sems_eq]
  unfold endY scratchPts
  iintro ⟨⟨Hu, Ho⟩, Ha, H3, Hr⟩
  isplitl [Hu Ha H3]
  · isplitl [Hu]; · iexact Hu
    isplitl [Ha] <;> iassumption
  isplitl [Ho] <;> iassumption

/-- The staging semaphore is none of the exchange's. -/
theorem staging_low : lv ((c : Thread nD τ), .dma (0 : Fin 35)) () = 0 := by
  have h : kindOf (.dma (0 : Fin 35)) = none := by
    unfold kindOf Function.partialInv
    refine dif_neg ?_
    rintro ⟨_ | j | t | s, h⟩
    · cases h
    all_goals
      have hc (a b : Fin 35) (h : (SemLoc.dma a : SemLoc sig) = .dma b) : a.val = b.val := by cases h; rfl
      have := hc _ _ h
      simp only [copyS, sendS, recvS, Fin.val_zero] at this
      omega
  unfold lv; rw [h]; rfl

/-- The staging of the result may be waited for before and after the body, -/
theorem mayWait_staging (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · exact mayWait_low c (.dma q) hq (Finset.univ.erase c) (Finset.univ.erase c)
  · have h := mayWait_low (F := F) c (.dma q) hq ∅ ∅
    unfold owedSends owedSignals at h
    rw [Finset.sum_empty, Finset.sum_empty, add_zero] at h
    exact h

/-- so all of the launch's own waits may be made. -/
theorem waits : (levAts L lv : sProp 𝕄) ⊢ Pipeline.cellsWaits cfgs (dats m ρ) () 0 c :=
  Pipeline.cellsWaits_intro cfgs (dats m ρ) () 0 c fun w s t =>
    mayWait_staging c _ (by fin_cases w; fin_cases s; exact staging_low c) _ (by
      rcases t with ⟨_ | _, ht⟩
      · exact Or.inl rfl
      · exact Or.inr rfl)

/-- The arguments. -/
def args : Finset (Ref sig .tc) := {main_arg0, main_arg1, main_arg2}

/-- What is held of the arguments at the end is all three, unchanged. -/
theorem args_eq : iprop(argPts m c ∗ thirdPts m c)
    ⊢ (bigSep args fun b => (c : Thread nD τ).loc b ↦{fullShare} m ((c : Thread nD τ).loc b) : sProp 𝕄) := by
  rw [bigSep_eq_bigSepL_of_eq [main_arg0, main_arg1, main_arg2] (by decide) (by decide)]
  show _ ⊢ iprop(((c : Thread nD τ).loc main_arg0 ↦{fullShare} m ((c : Thread nD τ).loc main_arg0))
    ∗ ((c : Thread nD τ).loc main_arg1 ↦{fullShare} m ((c : Thread nD τ).loc main_arg1))
    ∗ (c : Thread nD τ).loc main_arg2 ↦{fullShare} m ((c : Thread nD τ).loc main_arg2))
  unfold argPts thirdPts
  iintro ⟨⟨H0, H1⟩, H2⟩
  isplitl [H0]; · iexact H0
  isplitl [H1]; · iexact H1
  iexact H2

/-- What is read off the end. -/
def EndFacts (s : MemSt nD τ sig (Elt F)) : Prop :=
  (∀ b ∈ args, s.mem ((c : Thread nD τ).loc b) = m ((c : Thread nD τ).loc b))
    ∧ ∀ sm : SemLoc sig, sm.isScoped .tc = false → s.sem ((c.tc : Thread nD τ), sm) = 0

/-- What a device holds at the end says that of the memory. -/
theorem read_end (s' : Phys nD τ sig (Elt F)) :
    iprop(endY m c ∗ emp ∗ SI s') ⊢ (|={Set.univ}=> iprop(⌜EndFacts m c s'.mem⌝ ∗ SI s') : sProp 𝕄) := by
  unfold endY
  iintro ⟨⟨Hu, Ha, H3⟩, -, HSI⟩
  ihave Hb := (args_eq m c) $$ [Ha H3]
  · isplitl [Ha] <;> iassumption
  ihave H := (pointsTo_read_all args (fun b => (c : Thread nD τ).loc b) (fun b => m ((c : Thread nD τ).loc b)) s') $$ [Hb HSI]
  · isplitl [Hb] <;> iassumption
  icases H with ⟨%hargs, HSI⟩
  imod (Pipeline.unscopedSems0_read (X := unscopedSems0 c) (c := c) fupd_intro s') $$ [Hu HSI] with ⟨%hsem, HSI⟩
  · isplitl [Hu] <;> iassumption
  imodintro
  isplitr
  · ipureintro; exact ⟨hargs, hsem⟩
  iexact HSI

/-- The result array at the end, as the launch computes it. -/
def finalA (c : Dev nD) (w : Fin cfg0.W) : Buf (Elt F) ((cfg0.win w).arr.view.loc (c : Thread nD τ)) := (dats m ρ 0 c).arrAt w cfg0.N

set_option maxRecDepth 8000 in
/-- From any memory with zero counters: every weakly fair execution terminates, with every device's result as the
    launch computes it, its arguments unchanged, and every counter at zero. -/
theorem run_all : θ_run defs (onTc (τ := τ) (main (F := F))) (s₀ m ρ)
    (fun r => (∀ c : Dev nD, (∀ w : Fin cfg0.W, r.2.mem ((cfg0.win w).arr.view.loc (c : Thread nD τ)) = finalA m ρ c w)
        ∧ ∀ b ∈ args, r.2.mem ((c : Thread nD τ).loc b) = m ((c : Thread nD τ).loc b)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := all_set_up m)
    (hA := fun _ _ => rfl) (hpf := fun _ k => k.elim0)
    (X := startX m) (Y := endY m) (Z := fun _ => iprop(emp))
    (hX := start_intro m ρ) (hin := enter m ρ) (hout := leave m ρ)
    (QY := EndFacts m)
    (hY := read_end m)
    (hQ := fun _ h hs => ⟨fun c => ⟨fun w => (h c).1 w, (h c).2.2.1⟩, sem_eq_zero hs fun c => (h c).2.2.2⟩)

/-- The result array's one block is the whole array. -/
theorem finalA_out (c : Dev nD) : finalA m ρ c (0 : Fin 1) = outAt m := by
  unfold finalA
  rw [show cfg0.N = ((0 : Fin 1) : Fin cfg0.N).val + 1 from rfl, (dats m ρ 0 c).arrAt_succ (0 : Fin 1) (0 : Fin 1)]
  rw [show (cfg0.win (0 : Fin 1)).flush (0 : Fin 1) = true from by decide, if_pos rfl]
  exact Memref.write_access_unit_zero_univ (Elt F) main_v1 (by funext a; fin_cases a <;> rfl) _ _ _

/-- From any memory with zero counters every weakly fair execution of the kernel terminates, with the sum of all
    devices' partial sums as the result on every device, the arguments unchanged, and every counter at zero. -/
theorem run_main : θ_run defs (onTc (τ := τ) (main (F := F))) (s₀ m ρ)
    (fun r => (∀ c : Dev nD, r.2.mem ((c : Thread nD τ).loc main_v1) = outAt m
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  (θ_run defs _ _).mono (fun r h => ⟨fun c => ⟨((h.1 c).1 0).trans (finalA_out m ρ c), (h.1 c).2 main_arg0 (by decide),
    (h.1 c).2 main_arg1 (by decide), (h.1 c).2 main_arg2 (by decide)⟩, h.2⟩) (run_all m ρ)

/-- Of the run only the frame. -/
theorem run_frame : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  (θ_run defs _ _).mono (fun _ h => ⟨fun c => (h.1 c).2, h.2⟩) (run_main m ρ)

end Cert.LnGrad
-- ==== Proof.Same.lean ====
/-
The kernel as printed and the idealized kernel are one text: what is defined in the one is what is defined in the other.
-/
module

public import proofs.«01_k».proof.Proof.Gen.Kernel
public import proofs.«01_k».proof.Proof.Gen.KernelIdeal

@[expose] public section

noncomputable section

namespace Cert.LnGrad

open Idealize.ShloMosaic

variable {F : FTy → Type} [FloatOps F]

/-- The two bodies, -/
theorem body_same : Cert.Kernel.cc0_body (F := F) = Cert.KernelIdeal.cc0_body (F := F) := by
  unfold Cert.Kernel.cc0_body Cert.KernelIdeal.cc0_body; rfl

/-- the bodies' tables, -/
theorem defs₀_same : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rw [body_same]

/-- and so the two programs. -/
theorem defs_same : Cert.Kernel.defs (F := F) = Cert.KernelIdeal.defs (F := F) :=
  congrArg (Pipeline.defs Cert.KernelIdeal.pcfgs) defs₀_same

end Cert.LnGrad
-- ==== Proof.RowNorm.lean ====
/- Layer normalisation of one row over the extended reals, and the one law that joins the kernel's reciprocal square
   root to the reference's quotient by a square root. Nothing here speaks of a program. -/
module

public import Idealize.ShloMosaic.Lib.IdealHost
public import Idealize.ShloMosaic.Lib.Pointwise

@[expose] public section

noncomputable section

namespace Cert.LnGrad

open Idealize.ShloMosaic

/-- The length of a row, the number by which sums along it are divided. -/
def rowLen : EReal := Ideal.ofBits .f32 0x44800000#32

/-- The constant that is added to a variance. -/
def epsilon : EReal := Ideal.ofBits .f32 0x3727C5AC#32

/-- The mean of a row. -/
def rowMean (x : Fin 1024 → EReal) : EReal := Ideal.div (∑ k, x k) rowLen

/-- The variance of a row: the mean of the squared distances from its mean. -/
def rowVar (x : Fin 1024 → EReal) : EReal := Ideal.div (∑ k, (x k - rowMean x) * (x k - rowMean x)) rowLen

/-- The normalised row. -/
def rowHat (x : Fin 1024 → EReal) (l : Fin 1024) : EReal := (x l - rowMean x) * Ideal.rsqrt (rowVar x + epsilon)

/-- The row length is the real 1024. -/
theorem rowLen_eq : rowLen = ((1024 : ℝ) : EReal) := by
  simp [rowLen, Ideal.ofBits, Ideal.ieee, -EReal.coe_mul]; norm_num

/-- The row length is positive. -/
theorem rowLen_pos : 0 < rowLen := by
  rw [rowLen_eq]; exact EReal.coe_pos.mpr (by norm_num)

/-- The added constant is positive. -/
theorem epsilon_pos : 0 < epsilon := by
  have h : epsilon = (((10995116 : ℝ) * 2 ^ (-40 : ℤ) : ℝ) : EReal) := by
    simp [epsilon, Ideal.ofBits, Ideal.ieee, -EReal.coe_mul]
  rw [h]; exact EReal.coe_pos.mpr (by positivity)

/-- A square is not negative, at the infinities too. -/
theorem mul_self_nonneg_ereal (a : EReal) : 0 ≤ a * a := by
  rcases le_total 0 a with h | h
  · exact mul_nonneg h h
  · have := mul_nonneg (EReal.neg_nonneg.mpr h) (EReal.neg_nonneg.mpr h)
    rwa [neg_mul_neg] at this

/-- A variance is not negative, whatever the row holds. -/
theorem rowVar_nonneg (x : Fin 1024 → EReal) : 0 ≤ rowVar x := by
  have hs : (0 : EReal) ≤ ∑ k, (x k - rowMean x) * (x k - rowMean x) :=
    Finset.sum_nonneg fun k _ => mul_self_nonneg_ereal _
  unfold rowVar Ideal.div
  rw [if_neg rowLen_pos.ne']
  refine mul_nonneg hs ?_
  rw [rowLen_eq, ← EReal.coe_inv]
  exact EReal.coe_nonneg.mpr (by norm_num)

/-- At a positive argument the reciprocal square root is one divided by the square root; at `⊤` both are zero. -/
theorem one_div_sqrt {v : EReal} (h : 0 < v) : Ideal.div 1 (Ideal.sqrt v) = Ideal.rsqrt v := by
  induction v with
  | bot => exact absurd h (by simp)
  | top => simp [Ideal.div]
  | coe r =>
    have hr : 0 < r := EReal.coe_pos.mp h
    have hs : Real.sqrt r ≠ 0 := (Real.sqrt_pos.mpr hr).ne'
    rw [Ideal.sqrt_coe, Ideal.rsqrt_coe, if_neg hr.le.not_gt, if_neg hr.le.not_gt, if_neg hr.ne', Ideal.div_coe hs, one_mul,
      one_div]

/-- The reference's factor of a row, one over a square root, is the kernel's. -/
theorem one_div_sqrt_var (x : Fin 1024 → EReal) :
    Ideal.div 1 (Ideal.sqrt (rowVar x + epsilon)) = Ideal.rsqrt (rowVar x + epsilon) :=
  one_div_sqrt (epsilon_pos.trans_le (le_add_of_nonneg_left (rowVar_nonneg x)))

/-! ## Sums over all rows, cut into the devices' parts -/

/-- Row `k` of device `s`: block `s % 4` of the array, and in it quarter `s / 4`. -/
def rowAt (s : Fin 16) (k : Fin 256) : Fin 4096 := ⟨1024 * (s.val % 4) + 256 * (s.val / 4) + k.val, by omega⟩

/-- A sum over all rows is the sum, over the devices, of the sums of their rows: every row lies in one device's part. -/
theorem sum_rows (f : Fin 4096 → EReal) : ∑ s : Fin 16, ∑ k : Fin 256, f (rowAt s k) = ∑ r, f r := by
  rw [← Fintype.sum_prod_type']
  refine Fintype.sum_bijective (fun p : Fin 16 × Fin 256 => rowAt p.1 p.2) ?_ _ _ fun _ => rfl
  refine (Fintype.bijective_iff_injective_and_card _).mpr ⟨?_, by simp⟩
  rintro ⟨s, k⟩ ⟨s', k'⟩ h
  have h' := congrArg Fin.val h
  simp only [rowAt] at h'
  have := s.isLt; have := s'.isLt; have := k.isLt; have := k'.isLt
  refine Prod.ext (Fin.ext ?_) (Fin.ext ?_) <;> simp only <;> omega

end Cert.LnGrad

end
-- ==== Proof.KernelValue.lean ====
/- What the kernel's arithmetic computes over the extended reals, read at an index: a device's two rows of partial sums,
   and the sum of all devices' rows. -/
module

public import proofs.«01_k».proof.Proof.RowNorm
public import proofs.«01_k».proof.Proof.Protocol

@[expose] public section

noncomputable section

namespace Cert.LnGrad

open Cert.KernelIdeal Cert.KernelIdeal.Gen

open Idealize.ShloMosaic
open Idealize.ShloMosaic.TcCoe

/-- Row `r` of a device's part of an argument. -/
abbrev rowIn (v : Vec Ideal S256x1024 .f32) (r : Fin 256) : Fin 1024 → EReal := fun k => v (ix2 r k)

/-- A device's first row of sums: over its rows, `dy` times the normalised `x`. -/
theorem pay1_apply (x dy : Vec Ideal S256x1024 .f32) (l : Fin 1024) :
    k0_pay1 x dy (ix2 0 l) = ∑ r : Fin 256, dy (ix2 r l) * rowHat (rowIn x r) l := by
  pointwise [k0_pay1, rowHat, rowVar, rowMean, rowIn, rowLen, epsilon]

/-- A device's second row of sums: over its rows, `dy`. -/
theorem pay2_apply (dy : Vec Ideal S256x1024 .f32) (l : Fin 1024) :
    k0_pay2 dy (ix1 l) = ∑ r : Fin 256, dy (ix2 r l) := by
  pointwise [k0_pay2]

/-- The first of the two joined rows. -/
theorem pay3_first (a : FVec Ideal S1x1024 .f32) (b : FVec Ideal S1024 .f32) (l : Fin 1024) :
    k0_pay3 a b (ix3 0 0 l) = a (ix2 0 l) := by
  pointwise [k0_pay3]

/-- The second of the two joined rows. -/
theorem pay3_second (a : FVec Ideal S1x1024 .f32) (b : FVec Ideal S1024 .f32) (l : Fin 1024) :
    k0_pay3 a b (ix3 0 1 l) = b (ix1 l) := by
  pointwise [k0_pay3]

/-- The result: the sum over the slots of the exchange buffer. -/
theorem pay4_apply (g : Vec Ideal S16x2x1024 .f32) (t : Fin 2) (l : Fin 1024) :
    k0_pay4 g (ix2 t l) = ∑ s : Fin 16, g (ix3 s t l) := by
  pointwise [k0_pay4]

variable (m : (ℓ : Loc nD τ sig) → Buf (Elt Ideal) ℓ)

/-- A device's rows of `x`, -/
abbrev xPart (s : Dev nD) : FVec Ideal S256x1024 .f32 := xRows m s
/-- of `dy`, -/
abbrev dyPart (s : Dev nD) : FVec Ideal S256x1024 .f32 := dyRows m s
/-- and the result, as arrays of extended reals. -/
abbrev outI : FVec Ideal S2x1024 .f32 := outAt m

/-- The exchange buffer at an index is its device's row of sums. -/
theorem gathered_apply (s : Fin 16) (t : Fin 2) (l : Fin 1024) : gathered m (ix3 s t l) = partSums m s (ix3 0 t l) := by
  refine congrArg (partSums m s) (funext fun a => ?_)
  match a with | ⟨0, _⟩ => rfl | ⟨1, _⟩ => rfl | ⟨2, _⟩ => rfl

/-- The result's first row: `dy` times the normalised `x`, over each device's rows and over the devices. -/
theorem outAt_first (l : Fin 1024) :
    outI m (ix2 0 l) = ∑ s : Fin 16, ∑ r : Fin 256, dyPart m s (ix2 r l) * rowHat (rowIn (xPart m s) r) l := by
  refine (pay4_apply (gathered m) 0 l).trans (Finset.sum_congr rfl fun s _ => ?_)
  exact (gathered_apply m s 0 l).trans ((pay3_first _ _ l).trans (pay1_apply (xPart m s) (dyPart m s) l))

/-- The result's second row: `dy`, over each device's rows and over the devices. -/
theorem outAt_second (l : Fin 1024) : outI m (ix2 1 l) = ∑ s : Fin 16, ∑ r : Fin 256, dyPart m s (ix2 r l) := by
  refine (pay4_apply (gathered m) 1 l).trans (Finset.sum_congr rfl fun s _ => ?_)
  exact (gathered_apply m s 1 l).trans ((pay3_second _ _ l).trans (pay2_apply (dyPart m s) l))

end Cert.LnGrad

end
-- ==== Proof.ReferenceValue.lean ====
/- What the reference computes over the extended reals, read at an index: the sums over all rows of `dy` times the
   normalised `x`, and of `dy`. -/
module

public import proofs.«01_k».proof.Proof.RowNorm
public import proofs.«01_k».proof.Proof.Gen.ReferenceIdeal

@[expose] public section

noncomputable section

namespace Cert.LnGrad.Reference

open Cert.ReferenceIdeal Cert.ReferenceIdeal.Gen
open Idealize.ShloMosaic

variable (x dy : FVec Ideal S4096x1024 .f32)

/-- A row of the reference's argument. -/
abbrev rowOf (r : Fin 4096) : Fin 1024 → EReal := fun k => x (ix2 r k)

/-- A number laid along a column of 4096. -/
abbrev column (b : BitVec 32) : FVec Ideal S4096x1 .f32 :=
  broadcastInDim S4096x1 ![] bcast_S_S4096x1 (constant S_ .f32 b)

/-- The sums along the rows, as a column. -/
abbrev rowSums (v : FVec Ideal S4096x1024 .f32) : FVec Ideal S4096x1 .f32 :=
  broadcastInDim S4096x1 ![0] bcast_S4096_S4096x1_0
    (Host.reduceAdd v (constant S_ .f32 0x00000000#32) reducesTo_S4096x1024_S4096_d1 h_S_)

/-- A column laid along every row. -/
abbrev along (v : FVec Ideal S4096x1 .f32) : FVec Ideal S4096x1024 .f32 :=
  broadcastInDim S4096x1024 ![0, 1] bcast_S4096x1_S4096x1024_0_1 v

/-- The sums down the columns, as one row. -/
abbrev colSums (v : FVec Ideal S4096x1024 .f32) : FVec Ideal S1x1024 .f32 :=
  broadcastInDim S1x1024 ![1] bcast_S1024_S1x1024_1
    (Host.reduceAdd v (constant S_ .f32 0x00000000#32) reducesTo_S4096x1024_S1024_d0 h_S_)

/-- The column of means. -/
abbrev meanCol : FVec Ideal S4096x1 .f32 := Host.divf (rowSums x) (column 0x44800000#32)

/-- The distances from the means. -/
abbrev centred : FVec Ideal S4096x1024 .f32 := subf x (along (meanCol x))

/-- The divisor of the variance: the row length less a correction of zero. -/
abbrev varLen : FVec Ideal S_ .f32 := subf (constant S_ .f32 0x44800000#32) (sitofp .f32 (constantI S_ 32 0#32))

/-- The column of variances, where the divisor is positive. -/
abbrev varCol : FVec Ideal S4096x1 .f32 :=
  select (broadcastInDim S4096x1 ![] bcast_S_S4096x1 (cmpf .ogt varLen (constant S_ .f32 0x00000000#32)))
    (Host.divf (rowSums (mulf (centred x) (centred x))) (broadcastInDim S4096x1 ![] bcast_S_S4096x1 varLen))
    (broadcastInDim S4096x1 ![] bcast_S_S4096x1 (id (constant S_ .f32 0x7FC00000#32)))

/-- The column of the rows' factors. -/
abbrev invCol : FVec Ideal S4096x1 .f32 :=
  Host.divf (column 0x3F800000#32) (Host.sqrt (addf (varCol x) (column 0x3727C5AC#32)))

/-- The reference's result. -/
abbrev result : FVec Ideal S2x1024 .f32 :=
  concatenate S2x1024 0
    [⟨S1x1024, colSums (mulf dy (mulf (centred x) (along (invCol x))))⟩, ⟨S1x1024, colSums dy⟩]
    concatenates_S1x1024_S1x1024_S2x1024_d0

/-- A sum down a column at an index. -/
theorem colSums_apply (v : FVec Ideal S4096x1024 .f32) (l : Fin 1024) : colSums v (ix2 0 l) = ∑ r : Fin 4096, v (ix2 r l) := by
  pointwise [colSums]

/-- A mean at an index. -/
theorem meanCol_apply (r : Fin 4096) : meanCol x (ix2 r 0) = rowMean (rowOf x r) := by
  pointwise [meanCol, rowSums, column, rowMean, rowOf, rowLen]

/-- A distance from the mean at an index. -/
theorem centred_apply (r : Fin 4096) (l : Fin 1024) : centred x (ix2 r l) = x (ix2 r l) - rowMean (rowOf x r) := by
  rw [← meanCol_apply]
  pointwise [centred, along]

/-- The variance's divisor is the row length. -/
theorem varLen_apply (i : S_.Idx) : varLen i = rowLen := by
  have h : (FloatOps.sitofp (F := Ideal) .f32 (0#32) : EReal) = 0 := by
    show (((0#32 : BitVec 32).toInt : ℝ) : EReal) = 0
    simp
  show rowLen - (FloatOps.sitofp (F := Ideal) .f32 (0#32) : EReal) = rowLen
  rw [h, sub_zero]

/-- The divisor is positive, so a variance is the mean of the squared distances. -/
theorem varCol_apply (r : Fin 4096) : varCol x (ix2 r 0) = rowVar (rowOf x r) := by
  have hp : cmpf .ogt varLen (constant (F := Ideal) S_ .f32 0x00000000#32) = fun _ => 1#1 := by
    funext i
    show Ideal.cmp .ogt (varLen i) (Ideal.ofBits .f32 0x00000000#32) = 1#1
    rw [varLen_apply, Ideal.ofBits_zero_f32]
    simp [Ideal.cmp, rowLen_pos]
  have hl : varLen = fun _ => rowLen := funext varLen_apply
  have hs : varCol x (ix2 r 0) = Ideal.div (rowSums (mulf (centred x) (centred x)) (ix2 r 0)) rowLen := by
    rw [varCol, hp, hl]; rfl
  have hc : rowSums (mulf (centred x) (centred x)) (ix2 r 0) = ∑ k : Fin 1024, centred x (ix2 r k) * centred x (ix2 r k) := by
    pointwise [rowSums]
  rw [hs, hc, rowVar]
  simp only [centred_apply]

/-- A row's factor at an index. -/
theorem invCol_apply (r : Fin 4096) : invCol x (ix2 r 0) = Ideal.rsqrt (rowVar (rowOf x r) + epsilon) := by
  rw [← one_div_sqrt_var, ← varCol_apply]
  pointwise [invCol, column, epsilon]

/-- The result's first row: over all rows, `dy` times the normalised `x`. -/
theorem result_first (l : Fin 1024) :
    result x dy (ix2 0 l) = ∑ r : Fin 4096, dy (ix2 r l) * rowHat (rowOf x r) l := by
  have h : result x dy (ix2 0 l) = colSums (mulf dy (mulf (centred x) (along (invCol x)))) (ix2 0 l) := by
    pointwise [result]
  rw [h, colSums_apply]
  refine Finset.sum_congr rfl fun r _ => ?_
  rw [rowHat, ← centred_apply, ← invCol_apply]
  pointwise [along]

/-- The result's second row: over all rows, `dy`. -/
theorem result_second (l : Fin 1024) : result x dy (ix2 1 l) = ∑ r : Fin 4096, dy (ix2 r l) := by
  rw [← colSums_apply]
  pointwise [result]

end Cert.LnGrad.Reference

end
-- ==== Proof.Agree.lean ====
/- The kernel's result is the reference's, over the extended reals: a device's rows are rows of the whole arrays, each of
   which lies in one device's part. -/
module

public import proofs.«01_k».proof.Proof.KernelValue
public import proofs.«01_k».proof.Proof.ReferenceValue

@[expose] public section

noncomputable section

namespace Cert.LnGrad

open Cert.KernelIdeal Cert.KernelIdeal.Gen

open Idealize.ShloMosaic
open Idealize.ShloMosaic.TcCoe

/-- The rows that a device takes of its block start at the quarter that its number names. -/
theorem off1_row (s : Dev nD) : k0_off1 s 0 = 256 * (s.val / 4) := by revert s; decide

/-- They are whole rows. -/
theorem off1_col (s : Dev nD) : k0_off1 s 1 = 0 := by revert s; decide

/-- The block of a device: its number's last mesh coordinate. -/
theorem block_row (s : Dev nD) : Layout.meshLin [2, 2, 4] s.val [2] = s.val % 4 := by
  revert s; decide

variable {m : (ℓ : Loc nD τ sig) → Buf (Elt Ideal) ℓ} {x dy : FVec Ideal ⟨2, ![4096, 1024]⟩ .f32}

/-- What a device reads of the whole array, when its argument is its block of it. -/
theorem part_of_block {v : FVec Ideal S1024x1024 .f32} {w : FVec Ideal ⟨2, ![4096, 1024]⟩ .f32} (s : Dev nD)
    (h : v = Layout.blockN ⟨2, ![1024, 1024]⟩ ⟨2, ![4096, 1024]⟩ (Layout.meshBlock [2, 2, 4] ![[2], []] s) w)
    (r : Fin 256) (l : Fin 1024) :
    v ((Rect.unit (s := S1024x1024) (k0_off1 s) S256x1024.size (k0_off1_inb s)).emb (ix2 r l)) = w (ix2 (rowAt s r) l) := by
  rw [h]
  refine congrArg w (funext fun a => Fin.ext ?_)
  match a with
  | ⟨0, _⟩ =>
    show Layout.meshLin [2, 2, 4] s.val [2] * 1024 + (k0_off1 s 0 + 1 * r.val)
      = 1024 * (s.val % 4) + 256 * (s.val / 4) + r.val
    rw [block_row, off1_row]; omega
  | ⟨1, _⟩ =>
    show 0 * 1024 + (k0_off1 s 1 + 1 * l.val) = l.val
    rw [off1_col]; omega

/-- A device's rows of `x` are rows of the whole `x`. -/
theorem xPart_apply (s : Dev nD)
    (h : m ((s : Thread nD τ).loc main_arg0)
      = Layout.blockN ⟨2, ![1024, 1024]⟩ ⟨2, ![4096, 1024]⟩ (Layout.meshBlock [2, 2, 4] ![[2], []] s) x)
    (r : Fin 256) (l : Fin 1024) : xPart m s (ix2 r l) = x (ix2 (rowAt s r) l) :=
  part_of_block s h r l

/-- A device's rows of `dy` are rows of the whole `dy`. -/
theorem dyPart_apply (s : Dev nD)
    (h : m ((s : Thread nD τ).loc main_arg1)
      = Layout.blockN ⟨2, ![1024, 1024]⟩ ⟨2, ![4096, 1024]⟩ (Layout.meshBlock [2, 2, 4] ![[2], []] s) dy)
    (r : Fin 256) (l : Fin 1024) : dyPart m s (ix2 r l) = dy (ix2 (rowAt s r) l) :=
  part_of_block s h r l

/-- The kernel's result is the reference's. -/
theorem outAt_eq
    (hx : ∀ s : Dev nD, m ((s : Thread nD τ).loc main_arg0)
      = Layout.blockN ⟨2, ![1024, 1024]⟩ ⟨2, ![4096, 1024]⟩ (Layout.meshBlock [2, 2, 4] ![[2], []] s) x)
    (hdy : ∀ s : Dev nD, m ((s : Thread nD τ).loc main_arg1)
      = Layout.blockN ⟨2, ![1024, 1024]⟩ ⟨2, ![4096, 1024]⟩ (Layout.meshBlock [2, 2, 4] ![[2], []] s) dy) :
    outI m = Reference.result x dy := by
  funext i
  obtain ⟨t, l, rfl⟩ : ∃ (t : Fin 2) (l : Fin 1024), i = ix2 t l := ⟨i 0, i 1, eq_ix2 i⟩
  match t with
  | 0 =>
    rw [outAt_first, Reference.result_first, ← sum_rows]
    refine Finset.sum_congr rfl fun s _ => Finset.sum_congr rfl fun r _ => ?_
    rw [dyPart_apply s (hdy s), show rowIn (xPart m s) r = Reference.rowOf x (rowAt s r) from
      funext fun k => xPart_apply s (hx s) r k]
  | 1 =>
    rw [outAt_second, Reference.result_second, ← sum_rows]
    exact Finset.sum_congr rfl fun s _ => Finset.sum_congr rfl fun r _ => dyPart_apply s (hdy s) r l

end Cert.LnGrad

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Agree

@[expose] public section

noncomputable section

namespace Cert.Proof

open Idealize.ShloMosaic Idealize.SL.Sem

/-- The kernel over the extended reals: arguments unchanged and counters at zero, by its run. -/
theorem frame_kernelIdeal : Cert.quiescent_KernelIdeal := fun m ρ _ =>
  Cert.LnGrad.run_frame (F := Ideal) m ρ

/-- The kernel as printed: its text is the idealized kernel's, so this is the same run at the machine's floats. -/
theorem frame_kernel : Cert.quiescent_Kernel := fun m ρ _ => by
  rw [Cert.LnGrad.defs_same]
  exact Cert.LnGrad.run_frame (F := Bits) m ρ

/-- The reference: its arguments are written by no operation, and it has no semaphores. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, on arguments laid out over the mesh as the claim says, every device's result is the
    reference's. -/
theorem algebraic : Cert.algebraic_KernelIdeal_ReferenceIdeal := fun m g m' g' _ hin =>
  ⟨Cert.LnGrad.Reference.result (m' (((0 : Dev Cert.ReferenceIdeal.nD).tc : Thread _ _).loc Cert.ReferenceIdeal.main_arg0))
      (m' (((0 : Dev Cert.ReferenceIdeal.nD).tc : Thread _ _).loc Cert.ReferenceIdeal.main_arg1)),
    (θ_run Cert.KernelIdeal.defs _ _).mono
      (fun _ h c => ⟨((h.1 c).1).trans (Cert.LnGrad.outAt_eq (fun s => (hin s).1) fun s => (hin s).2.1), (h.1 c).2⟩)
      (Cert.LnGrad.run_main (F := Ideal) m g),
    (θ_run Cert.ReferenceIdeal.defs _ _).mono (fun _ h => h 0) (Cert.ReferenceIdeal.Value.run (F := Ideal) m' g')⟩

/-- Everything claimed. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
